-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 24576]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1536, 768]⟩ ⟨2, ![24576, 768]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x768 : Shape := ⟨2, ![768, 768]⟩
abbrev S768x1536 : Shape := ⟨2, ![768, 1536]⟩
abbrev S1536x768 : Shape := ⟨2, ![1536, 768]⟩
abbrev S48x768 : Shape := ⟨2, ![48, 768]⟩
abbrev S15x48x768 : Shape := ⟨3, ![15, 48, 768]⟩
abbrev S15 : Shape := ⟨1, ![15]⟩
abbrev S_ : Shape := ⟨0, ![]⟩
abbrev S1 : Shape := ⟨1, ![1]⟩
abbrev S1x48x768 : Shape := ⟨3, ![1, 48, 768]⟩

abbrev nBuf : Space → Nat
  | .hbm => 4
  | .vmem => 7
  | .smem => 0
  | _ => 0

abbrev bufTy : (tb : Table) → Fin (tcTables nBuf tb) → BufTy
  | .hbm, ⟨0, _⟩ => ⟨S768x768, .bf16⟩
  | .hbm, ⟨1, _⟩ => ⟨S768x1536, .bf16⟩
  | .hbm, ⟨2, _⟩ => ⟨S1536x768, .bf16⟩
  | .hbm, ⟨3, _⟩ => ⟨S768x768, .bf16⟩
  | .local _ .vmem, ⟨0, _⟩ => ⟨S768x768, .bf16⟩
  | .local _ .vmem, ⟨1, _⟩ => ⟨S768x1536, .bf16⟩
  | .local _ .vmem, ⟨2, _⟩ => ⟨S1536x768, .bf16⟩
  | .local _ .vmem, ⟨3, _⟩ => ⟨S768x768, .bf16⟩
  | .local _ .vmem, ⟨4, _⟩ => ⟨S768x768, .bf16⟩
  | .local _ .vmem, ⟨5, _⟩ => ⟨S48x768, .bf16⟩
  | .local _ .vmem, ⟨6, _⟩ => ⟨S15x48x768, .bf16⟩
  | _, _ => ⟨S768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_9 : BitVec 32 := 1#32
  let v19 : BitVec 32 := Scalar.addi v2 c1_i32_9
  let c16_i32_10 : BitVec 32 := 16#32
  let c0_i32 : BitVec 32 := 0#32
  let v20 : BitVec 1 := Scalar.cmpi .eq c16_i32_10 c0_i32
  let c1_i32_11 : BitVec 32 := 1#32
  let v21 : BitVec 32 := Scalar.select v20 c1_i32_11 c16_i32_10
  let v22 : BitVec 32 := Scalar.remsi v19 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c1_i32_16 : BitVec 32 := 1#32
  let v30 : BitVec 32 := Scalar.muli v29 c1_i32_16
  let v31 : BitVec 32 := Scalar.addi c0_i32_17 v30
  v31.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v32 : BitVec 32 := Scalar.addi v2 c2_i32
  let c16_i32_18 : BitVec 32 := 16#32
  let c0_i32_19 : BitVec 32 := 0#32
  let v33 : BitVec 1 := Scalar.cmpi .eq c16_i32_18 c0_i32_19
  let c1_i32_20 : BitVec 32 := 1#32
  let v34 : BitVec 32 := Scalar.select v33 c1_i32_20 c16_i32_18
  let v35 : BitVec 32 := Scalar.remsi v32 v34
  let c0_i32_22 : BitVec 32 := 0#32
  let v37 : BitVec 1 := Scalar.cmpi .slt v35 c0_i32_22
  let c0_i32_23 : BitVec 32 := 0#32
  let v38 : BitVec 1 := Scalar.cmpi .slt v34 c0_i32_23
  let v39 : BitVec 1 := Scalar.xori v37 v38
  let c0_i32_21 : BitVec 32 := 0#32
  let v36 : BitVec 1 := Scalar.cmpi .ne v35 c0_i32_21
  let v40 : BitVec 1 := Scalar.andi v39 v36
  let v41 : BitVec 32 := Scalar.addi v35 v34
  let v42 : BitVec 32 := Scalar.select v40 v41 v35
  let c1_i32_25 : BitVec 32 := 1#32
  let v43 : BitVec 32 := Scalar.muli v42 c1_i32_25
  let v44 : BitVec 32 := Scalar.addi c0_i32_26 v43
  v44.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v45 : BitVec 32 := Scalar.addi v2 c3_i32
  let c16_i32_27 : BitVec 32 := 16#32
  let c0_i32_28 : BitVec 32 := 0#32
  let v46 : BitVec 1 := Scalar.cmpi .eq c16_i32_27 c0_i32_28
  let c1_i32_29 : BitVec 32 := 1#32
  let v47 : BitVec 32 := Scalar.select v46 c1_i32_29 c16_i32_27
  let v48 : BitVec 32 := Scalar.remsi v45 v47
  let c0_i32_31 : BitVec 32 := 0#32
  let v50 : BitVec 1 := Scalar.cmpi .slt v48 c0_i32_31
  let c0_i32_32 : BitVec 32 := 0#32
  let v51 : BitVec 1 := Scalar.cmpi .slt v47 c0_i32_32
  let v52 : BitVec 1 := Scalar.xori v50 v51
  let c0_i32_30 : BitVec 32 := 0#32
  let v49 : BitVec 1 := Scalar.cmpi .ne v48 c0_i32_30
  let v53 : BitVec 1 := Scalar.andi v52 v49
  let v54 : BitVec 32 := Scalar.addi v48 v47
  let v55 : BitVec 32 := Scalar.select v53 v54 v48
  let c1_i32_34 : BitVec 32 := 1#32
  let v56 : BitVec 32 := Scalar.muli v55 c1_i32_34
  let v57 : BitVec 32 := Scalar.addi c0_i32_35 v56
  v57.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v58 : BitVec 32 := Scalar.addi v2 c4_i32
  let c16_i32_36 : BitVec 32 := 16#32
  let c0_i32_37 : BitVec 32 := 0#32
  let v59 : BitVec 1 := Scalar.cmpi .eq c16_i32_36 c0_i32_37
  let c1_i32_38 : BitVec 32 := 1#32
  let v60 : BitVec 32 := Scalar.select v59 c1_i32_38 c16_i32_36
  let v61 : BitVec 32 := Scalar.remsi v58 v60
  let c0_i32_40 : BitVec 32 := 0#32
  let v63 : BitVec 1 := Scalar.cmpi .slt v61 c0_i32_40
  let c0_i32_41 : BitVec 32 := 0#32
  let v64 : BitVec 1 := Scalar.cmpi .slt v60 c0_i32_41
  let v65 : BitVec 1 := Scalar.xori v63 v64
  let c0_i32_39 : BitVec 32 := 0#32
  let v62 : BitVec 1 := Scalar.cmpi .ne v61 c0_i32_39
  let v66 : BitVec 1 := Scalar.andi v65 v62
  let v67 : BitVec 32 := Scalar.addi v61 v60
  let v68 : BitVec 32 := Scalar.select v66 v67 v61
  let c1_i32_43 : BitVec 32 := 1#32
  let v69 : BitVec 32 := Scalar.muli v68 c1_i32_43
  let v70 : BitVec 32 := Scalar.addi c0_i32_44 v69
  v70.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v71 : BitVec 32 := Scalar.addi v2 c5_i32
  let c16_i32_45 : BitVec 32 := 16#32
  let c0_i32_46 : BitVec 32 := 0#32
  let v72 : BitVec 1 := Scalar.cmpi .eq c16_i32_45 c0_i32_46
  let c1_i32_47 : BitVec 32 := 1#32
  let v73 : BitVec 32 := Scalar.select v72 c1_i32_47 c16_i32_45
  let v74 : BitVec 32 := Scalar.remsi v71 v73
  let c0_i32_49 : BitVec 32 := 0#32
  let v76 : BitVec 1 := Scalar.cmpi .slt v74 c0_i32_49
  let c0_i32_50 : BitVec 32 := 0#32
  let v77 : BitVec 1 := Scalar.cmpi .slt v73 c0_i32_50
  let v78 : BitVec 1 := Scalar.xori v76 v77
  let c0_i32_48 : BitVec 32 := 0#32
  let v75 : BitVec 1 := Scalar.cmpi .ne v74 c0_i32_48
  let v79 : BitVec 1 := Scalar.andi v78 v75
  let v80 : BitVec 32 := Scalar.addi v74 v73
  let v81 : BitVec 32 := Scalar.select v79 v80 v74
  let c1_i32_52 : BitVec 32 := 1#32
  let v82 : BitVec 32 := Scalar.muli v81 c1_i32_52
  let v83 : BitVec 32 := Scalar.addi c0_i32_53 v82
  v83.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v84 : BitVec 32 := Scalar.addi v2 c6_i32
  let c16_i32_54 : BitVec 32 := 16#32
  let c0_i32_55 : BitVec 32 := 0#32
  let v85 : BitVec 1 := Scalar.cmpi .eq c16_i32_54 c0_i32_55
  let c1_i32_56 : BitVec 32 := 1#32
  let v86 : BitVec 32 := Scalar.select v85 c1_i32_56 c16_i32_54
  let v87 : BitVec 32 := Scalar.remsi v84 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let c1_i32_61 : BitVec 32 := 1#32
  let v95 : BitVec 32 := Scalar.muli v94 c1_i32_61
  let v96 : BitVec 32 := Scalar.addi c0_i32_62 v95
  v96.toNat
def k0_dev7 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v97 : BitVec 32 := Scalar.addi v2 c7_i32
  let c16_i32_63 : BitVec 32 := 16#32
  let c0_i32_64 : BitVec 32 := 0#32
  let v98 : BitVec 1 := Scalar.cmpi .eq c16_i32_63 c0_i32_64
  let c1_i32_65 : BitVec 32 := 1#32
  let v99 : BitVec 32 := Scalar.select v98 c1_i32_65 c16_i32_63
  let v100 : BitVec 32 := Scalar.remsi v97 v99
  let c0_i32_67 : BitVec 32 := 0#32
  let v102 : BitVec 1 := Scalar.cmpi .slt v100 c0_i32_67
  let c0_i32_68 : BitVec 32 := 0#32
  let v103 : BitVec 1 := Scalar.cmpi .slt v99 c0_i32_68
  let v104 : BitVec 1 := Scalar.xori v102 v103
  let c0_i32_66 : BitVec 32 := 0#32
  let v101 : BitVec 1 := Scalar.cmpi .ne v100 c0_i32_66
  let v105 : BitVec 1 := Scalar.andi v104 v101
  let v106 : BitVec 32 := Scalar.addi v100 v99
  let v107 : BitVec 32 := Scalar.select v105 v106 v100
  let c1_i32_70 : BitVec 32 := 1#32
  let v108 : BitVec 32 := Scalar.muli v107 c1_i32_70
  let v109 : BitVec 32 := Scalar.addi c0_i32_71 v108
  v109.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v110 : BitVec 32 := Scalar.addi v2 c8_i32
  let c16_i32_72 : BitVec 32 := 16#32
  let c0_i32_73 : BitVec 32 := 0#32
  let v111 : BitVec 1 := Scalar.cmpi .eq c16_i32_72 c0_i32_73
  let c1_i32_74 : BitVec 32 := 1#32
  let v112 : BitVec 32 := Scalar.select v111 c1_i32_74 c16_i32_72
  let v113 : BitVec 32 := Scalar.remsi v110 v112
  let c0_i32_76 : BitVec 32 := 0#32
  let v115 : BitVec 1 := Scalar.cmpi .slt v113 c0_i32_76
  let c0_i32_77 : BitVec 32 := 0#32
  let v116 : BitVec 1 := Scalar.cmpi .slt v112 c0_i32_77
  let v117 : BitVec 1 := Scalar.xori v115 v116
  let c0_i32_75 : BitVec 32 := 0#32
  let v114 : BitVec 1 := Scalar.cmpi .ne v113 c0_i32_75
  let v118 : BitVec 1 := Scalar.andi v117 v114
  let v119 : BitVec 32 := Scalar.addi v113 v112
  let v120 : BitVec 32 := Scalar.select v118 v119 v113
  let c1_i32_79 : BitVec 32 := 1#32
  let v121 : BitVec 32 := Scalar.muli v120 c1_i32_79
  let v122 : BitVec 32 := Scalar.addi c0_i32_80 v121
  v122.toNat
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v123 : BitVec 32 := Scalar.addi v2 c9_i32
  let c16_i32_81 : BitVec 32 := 16#32
  let c0_i32_82 : BitVec 32 := 0#32
  let v124 : BitVec 1 := Scalar.cmpi .eq c16_i32_81 c0_i32_82
  let c1_i32_83 : BitVec 32 := 1#32
  let v125 : BitVec 32 := Scalar.select v124 c1_i32_83 c16_i32_81
  let v126 : BitVec 32 := Scalar.remsi v123 v125
  let c0_i32_85 : BitVec 32 := 0#32
  let v128 : BitVec 1 := Scalar.cmpi .slt v126 c0_i32_85
  let c0_i32_86 : BitVec 32 := 0#32
  let v129 : BitVec 1 := Scalar.cmpi .slt v125 c0_i32_86
  let v130 : BitVec 1 := Scalar.xori v128 v129
  let c0_i32_84 : BitVec 32 := 0#32
  let v127 : BitVec 1 := Scalar.cmpi .ne v126 c0_i32_84
  let v131 : BitVec 1 := Scalar.andi v130 v127
  let v132 : BitVec 32 := Scalar.addi v126 v125
  let v133 : BitVec 32 := Scalar.select v131 v132 v126
  let c1_i32_88 : BitVec 32 := 1#32
  let v134 : BitVec 32 := Scalar.muli v133 c1_i32_88
  let v135 : BitVec 32 := Scalar.addi c0_i32_89 v134
  v135.toNat
def k0_dev10 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v136 : BitVec 32 := Scalar.addi v2 c10_i32
  let c16_i32_90 : BitVec 32 := 16#32
  let c0_i32_91 : BitVec 32 := 0#32
  let v137 : BitVec 1 := Scalar.cmpi .eq c16_i32_90 c0_i32_91
  let c1_i32_92 : BitVec 32 := 1#32
  let v138 : BitVec 32 := Scalar.select v137 c1_i32_92 c16_i32_90
  let v139 : BitVec 32 := Scalar.remsi v136 v138
  let c0_i32_94 : BitVec 32 := 0#32
  let v141 : BitVec 1 := Scalar.cmpi .slt v139 c0_i32_94
  let c0_i32_95 : BitVec 32 := 0#32
  let v142 : BitVec 1 := Scalar.cmpi .slt v138 c0_i32_95
  let v143 : BitVec 1 := Scalar.xori v141 v142
  let c0_i32_93 : BitVec 32 := 0#32
  let v140 : BitVec 1 := Scalar.cmpi .ne v139 c0_i32_93
  let v144 : BitVec 1 := Scalar.andi v143 v140
  let v145 : BitVec 32 := Scalar.addi v139 v138
  let v146 : BitVec 32 := Scalar.select v144 v145 v139
  let c1_i32_97 : BitVec 32 := 1#32
  let v147 : BitVec 32 := Scalar.muli v146 c1_i32_97
  let v148 : BitVec 32 := Scalar.addi c0_i32_98 v147
  v148.toNat
def k0_dev11 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v149 : BitVec 32 := Scalar.addi v2 c11_i32
  let c16_i32_99 : BitVec 32 := 16#32
  let c0_i32_100 : BitVec 32 := 0#32
  let v150 : BitVec 1 := Scalar.cmpi .eq c16_i32_99 c0_i32_100
  let c1_i32_101 : BitVec 32 := 1#32
  let v151 : BitVec 32 := Scalar.select v150 c1_i32_101 c16_i32_99
  let v152 : BitVec 32 := Scalar.remsi v149 v151
  let c0_i32_103 : BitVec 32 := 0#32
  let v154 : BitVec 1 := Scalar.cmpi .slt v152 c0_i32_103
  let c0_i32_104 : BitVec 32 := 0#32
  let v155 : BitVec 1 := Scalar.cmpi .slt v151 c0_i32_104
  let v156 : BitVec 1 := Scalar.xori v154 v155
  let c0_i32_102 : BitVec 32 := 0#32
  let v153 : BitVec 1 := Scalar.cmpi .ne v152 c0_i32_102
  let v157 : BitVec 1 := Scalar.andi v156 v153
  let v158 : BitVec 32 := Scalar.addi v152 v151
  let v159 : BitVec 32 := Scalar.select v157 v158 v152
  let c1_i32_106 : BitVec 32 := 1#32
  let v160 : BitVec 32 := Scalar.muli v159 c1_i32_106
  let v161 : BitVec 32 := Scalar.addi c0_i32_107 v160
  v161.toNat
def k0_dev12 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v162 : BitVec 32 := Scalar.addi v2 c12_i32
  let c16_i32_108 : BitVec 32 := 16#32
  let c0_i32_109 : BitVec 32 := 0#32
  let v163 : BitVec 1 := Scalar.cmpi .eq c16_i32_108 c0_i32_109
  let c1_i32_110 : BitVec 32 := 1#32
  let v164 : BitVec 32 := Scalar.select v163 c1_i32_110 c16_i32_108
  let v165 : BitVec 32 := Scalar.remsi v162 v164
  let c0_i32_112 : BitVec 32 := 0#32
  let v167 : BitVec 1 := Scalar.cmpi .slt v165 c0_i32_112
  let c0_i32_113 : BitVec 32 := 0#32
  let v168 : BitVec 1 := Scalar.cmpi .slt v164 c0_i32_113
  let v169 : BitVec 1 := Scalar.xori v167 v168
  let c0_i32_111 : BitVec 32 := 0#32
  let v166 : BitVec 1 := Scalar.cmpi .ne v165 c0_i32_111
  let v170 : BitVec 1 := Scalar.andi v169 v166
  let v171 : BitVec 32 := Scalar.addi v165 v164
  let v172 : BitVec 32 := Scalar.select v170 v171 v165
  let c1_i32_115 : BitVec 32 := 1#32
  let v173 : BitVec 32 := Scalar.muli v172 c1_i32_115
  let v174 : BitVec 32 := Scalar.addi c0_i32_116 v173
  v174.toNat
def k0_dev13 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v175 : BitVec 32 := Scalar.addi v2 c13_i32
  let c16_i32_117 : BitVec 32 := 16#32
  let c0_i32_118 : BitVec 32 := 0#32
  let v176 : BitVec 1 := Scalar.cmpi .eq c16_i32_117 c0_i32_118
  let c1_i32_119 : BitVec 32 := 1#32
  let v177 : BitVec 32 := Scalar.select v176 c1_i32_119 c16_i32_117
  let v178 : BitVec 32 := Scalar.remsi v175 v177
  let c0_i32_121 : BitVec 32 := 0#32
  let v180 : BitVec 1 := Scalar.cmpi .slt v178 c0_i32_121
  let c0_i32_122 : BitVec 32 := 0#32
  let v181 : BitVec 1 := Scalar.cmpi .slt v177 c0_i32_122
  let v182 : BitVec 1 := Scalar.xori v180 v181
  let c0_i32_120 : BitVec 32 := 0#32
  let v179 : BitVec 1 := Scalar.cmpi .ne v178 c0_i32_120
  let v183 : BitVec 1 := Scalar.andi v182 v179
  let v184 : BitVec 32 := Scalar.addi v178 v177
  let v185 : BitVec 32 := Scalar.select v183 v184 v178
  let c1_i32_124 : BitVec 32 := 1#32
  let v186 : BitVec 32 := Scalar.muli v185 c1_i32_124
  let v187 : BitVec 32 := Scalar.addi c0_i32_125 v186
  v187.toNat
def k0_dev14 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v188 : BitVec 32 := Scalar.addi v2 c14_i32
  let c16_i32_126 : BitVec 32 := 16#32
  let c0_i32_127 : BitVec 32 := 0#32
  let v189 : BitVec 1 := Scalar.cmpi .eq c16_i32_126 c0_i32_127
  let c1_i32_128 : BitVec 32 := 1#32
  let v190 : BitVec 32 := Scalar.select v189 c1_i32_128 c16_i32_126
  let v191 : BitVec 32 := Scalar.remsi v188 v190
  let c0_i32_130 : BitVec 32 := 0#32
  let v193 : BitVec 1 := Scalar.cmpi .slt v191 c0_i32_130
  let c0_i32_131 : BitVec 32 := 0#32
  let v194 : BitVec 1 := Scalar.cmpi .slt v190 c0_i32_131
  let v195 : BitVec 1 := Scalar.xori v193 v194
  let c0_i32_129 : BitVec 32 := 0#32
  let v192 : BitVec 1 := Scalar.cmpi .ne v191 c0_i32_129
  let v196 : BitVec 1 := Scalar.andi v195 v192
  let v197 : BitVec 32 := Scalar.addi v191 v190
  let v198 : BitVec 32 := Scalar.select v196 v197 v191
  let c1_i32_133 : BitVec 32 := 1#32
  let v199 : BitVec 32 := Scalar.muli v198 c1_i32_133
  let v200 : BitVec 32 := Scalar.addi c0_i32_134 v199
  v200.toNat
def k0_dev15 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v201 : BitVec 32 := Scalar.addi v2 c15_i32
  let c16_i32_135 : BitVec 32 := 16#32
  let c0_i32_136 : BitVec 32 := 0#32
  let v202 : BitVec 1 := Scalar.cmpi .eq c16_i32_135 c0_i32_136
  let c1_i32_137 : BitVec 32 := 1#32
  let v203 : BitVec 32 := Scalar.select v202 c1_i32_137 c16_i32_135
  let v204 : BitVec 32 := Scalar.remsi v201 v203
  let c0_i32_139 : BitVec 32 := 0#32
  let v206 : BitVec 1 := Scalar.cmpi .slt v204 c0_i32_139
  let c0_i32_140 : BitVec 32 := 0#32
  let v207 : BitVec 1 := Scalar.cmpi .slt v203 c0_i32_140
  let v208 : BitVec 1 := Scalar.xori v206 v207
  let c0_i32_138 : BitVec 32 := 0#32
  let v205 : BitVec 1 := Scalar.cmpi .ne v204 c0_i32_138
  let v209 : BitVec 1 := Scalar.andi v208 v205
  let v210 : BitVec 32 := Scalar.addi v204 v203
  let v211 : BitVec 32 := Scalar.select v209 v210 v204
  let c1_i32_142 : BitVec 32 := 1#32
  let v212 : BitVec 32 := Scalar.muli v211 c1_i32_142
  let v213 : BitVec 32 := Scalar.addi c0_i32_143 v212
  v213.toNat
def k0_off1 (d0 : Dev nD) (c1_i32_145 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v214 : BitVec 32 := Scalar.addi v2 c1_i32_145
  let c16_i32_146 : BitVec 32 := 16#32
  let c0_i32_147 : BitVec 32 := 0#32
  let v215 : BitVec 1 := Scalar.cmpi .eq c16_i32_146 c0_i32_147
  let c1_i32_148 : BitVec 32 := 1#32
  let v216 : BitVec 32 := Scalar.select v215 c1_i32_148 c16_i32_146
  let v217 : BitVec 32 := Scalar.remsi v214 v216
  let c0_i32_150 : BitVec 32 := 0#32
  let v219 : BitVec 1 := Scalar.cmpi .slt v217 c0_i32_150
  let c0_i32_151 : BitVec 32 := 0#32
  let v220 : BitVec 1 := Scalar.cmpi .slt v216 c0_i32_151
  let v221 : BitVec 1 := Scalar.xori v219 v220
  let c0_i32_149 : BitVec 32 := 0#32
  let v218 : BitVec 1 := Scalar.cmpi .ne v217 c0_i32_149
  let v222 : BitVec 1 := Scalar.andi v221 v218
  let v223 : BitVec 32 := Scalar.addi v217 v216
  let v224 : BitVec 32 := Scalar.select v222 v223 v217
  let c48_i32 : BitVec 32 := 48#32
  let v225 : BitVec 32 := Scalar.muli v224 c48_i32
  let c0_i32_159 : BitVec 32 := 0#32
  ![v225.toNat, 0]
def k0_dev16 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v214 : BitVec 32 := Scalar.addi v2 c1_i32_145
  let c16_i32_146 : BitVec 32 := 16#32
  let c0_i32_147 : BitVec 32 := 0#32
  let v215 : BitVec 1 := Scalar.cmpi .eq c16_i32_146 c0_i32_147
  let c1_i32_148 : BitVec 32 := 1#32
  let v216 : BitVec 32 := Scalar.select v215 c1_i32_148 c16_i32_146
  let v217 : BitVec 32 := Scalar.remsi v214 v216
  let c0_i32_150 : BitVec 32 := 0#32
  let v219 : BitVec 1 := Scalar.cmpi .slt v217 c0_i32_150
  let c0_i32_151 : BitVec 32 := 0#32
  let v220 : BitVec 1 := Scalar.cmpi .slt v216 c0_i32_151
  let v221 : BitVec 1 := Scalar.xori v219 v220
  let c0_i32_149 : BitVec 32 := 0#32
  let v218 : BitVec 1 := Scalar.cmpi .ne v217 c0_i32_149
  let v222 : BitVec 1 := Scalar.andi v221 v218
  let v223 : BitVec 32 := Scalar.addi v217 v216
  let v224 : BitVec 32 := Scalar.select v222 v223 v217
  let c1_i32_155 : BitVec 32 := 1#32
  let v226 : BitVec 32 := Scalar.muli v224 c1_i32_155
  let v227 : BitVec 32 := Scalar.addi c0_i32_156 v226
  v227.toNat
def k0_dev17 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_160 : BitVec 32 := 2#32
  let v235 : BitVec 32 := Scalar.addi v2 c2_i32_160
  let c16_i32_161 : BitVec 32 := 16#32
  let c0_i32_162 : BitVec 32 := 0#32
  let v236 : BitVec 1 := Scalar.cmpi .eq c16_i32_161 c0_i32_162
  let c1_i32_163 : BitVec 32 := 1#32
  let v237 : BitVec 32 := Scalar.select v236 c1_i32_163 c16_i32_161
  let v238 : BitVec 32 := Scalar.remsi v235 v237
  let c0_i32_165 : BitVec 32 := 0#32
  let v240 : BitVec 1 := Scalar.cmpi .slt v238 c0_i32_165
  let c0_i32_166 : BitVec 32 := 0#32
  let v241 : BitVec 1 := Scalar.cmpi .slt v237 c0_i32_166
  let v242 : BitVec 1 := Scalar.xori v240 v241
  let c0_i32_164 : BitVec 32 := 0#32
  let v239 : BitVec 1 := Scalar.cmpi .ne v238 c0_i32_164
  let v243 : BitVec 1 := Scalar.andi v242 v239
  let v244 : BitVec 32 := Scalar.addi v238 v237
  let v245 : BitVec 32 := Scalar.select v243 v244 v238
  let c1_i32_171 : BitVec 32 := 1#32
  let v247 : BitVec 32 := Scalar.muli v245 c1_i32_171
  let v248 : BitVec 32 := Scalar.addi c0_i32_172 v247
  v248.toNat
def k0_dev18 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_176 : BitVec 32 := 3#32
  let v256 : BitVec 32 := Scalar.addi v2 c3_i32_176
  let c16_i32_177 : BitVec 32 := 16#32
  let c0_i32_178 : BitVec 32 := 0#32
  let v257 : BitVec 1 := Scalar.cmpi .eq c16_i32_177 c0_i32_178
  let c1_i32_179 : BitVec 32 := 1#32
  let v258 : BitVec 32 := Scalar.select v257 c1_i32_179 c16_i32_177
  let v259 : BitVec 32 := Scalar.remsi v256 v258
  let c0_i32_181 : BitVec 32 := 0#32
  let v261 : BitVec 1 := Scalar.cmpi .slt v259 c0_i32_181
  let c0_i32_182 : BitVec 32 := 0#32
  let v262 : BitVec 1 := Scalar.cmpi .slt v258 c0_i32_182
  let v263 : BitVec 1 := Scalar.xori v261 v262
  let c0_i32_180 : BitVec 32 := 0#32
  let v260 : BitVec 1 := Scalar.cmpi .ne v259 c0_i32_180
  let v264 : BitVec 1 := Scalar.andi v263 v260
  let v265 : BitVec 32 := Scalar.addi v259 v258
  let v266 : BitVec 32 := Scalar.select v264 v265 v259
  let c1_i32_187 : BitVec 32 := 1#32
  let v268 : BitVec 32 := Scalar.muli v266 c1_i32_187
  let v269 : BitVec 32 := Scalar.addi c0_i32_188 v268
  v269.toNat
def k0_dev19 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_192 : BitVec 32 := 4#32
  let v277 : BitVec 32 := Scalar.addi v2 c4_i32_192
  let c16_i32_193 : BitVec 32 := 16#32
  let c0_i32_194 : BitVec 32 := 0#32
  let v278 : BitVec 1 := Scalar.cmpi .eq c16_i32_193 c0_i32_194
  let c1_i32_195 : BitVec 32 := 1#32
  let v279 : BitVec 32 := Scalar.select v278 c1_i32_195 c16_i32_193
  let v280 : BitVec 32 := Scalar.remsi v277 v279
  let c0_i32_197 : BitVec 32 := 0#32
  let v282 : BitVec 1 := Scalar.cmpi .slt v280 c0_i32_197
  let c0_i32_198 : BitVec 32 := 0#32
  let v283 : BitVec 1 := Scalar.cmpi .slt v279 c0_i32_198
  let v284 : BitVec 1 := Scalar.xori v282 v283
  let c0_i32_196 : BitVec 32 := 0#32
  let v281 : BitVec 1 := Scalar.cmpi .ne v280 c0_i32_196
  let v285 : BitVec 1 := Scalar.andi v284 v281
  let v286 : BitVec 32 := Scalar.addi v280 v279
  let v287 : BitVec 32 := Scalar.select v285 v286 v280
  let c1_i32_203 : BitVec 32 := 1#32
  let v289 : BitVec 32 := Scalar.muli v287 c1_i32_203
  let v290 : BitVec 32 := Scalar.addi c0_i32_204 v289
  v290.toNat
def k0_dev20 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_208 : BitVec 32 := 5#32
  let v298 : BitVec 32 := Scalar.addi v2 c5_i32_208
  let c16_i32_209 : BitVec 32 := 16#32
  let c0_i32_210 : BitVec 32 := 0#32
  let v299 : BitVec 1 := Scalar.cmpi .eq c16_i32_209 c0_i32_210
  let c1_i32_211 : BitVec 32 := 1#32
  let v300 : BitVec 32 := Scalar.select v299 c1_i32_211 c16_i32_209
  let v301 : BitVec 32 := Scalar.remsi v298 v300
  let c0_i32_213 : BitVec 32 := 0#32
  let v303 : BitVec 1 := Scalar.cmpi .slt v301 c0_i32_213
  let c0_i32_214 : BitVec 32 := 0#32
  let v304 : BitVec 1 := Scalar.cmpi .slt v300 c0_i32_214
  let v305 : BitVec 1 := Scalar.xori v303 v304
  let c0_i32_212 : BitVec 32 := 0#32
  let v302 : BitVec 1 := Scalar.cmpi .ne v301 c0_i32_212
  let v306 : BitVec 1 := Scalar.andi v305 v302
  let v307 : BitVec 32 := Scalar.addi v301 v300
  let v308 : BitVec 32 := Scalar.select v306 v307 v301
  let c1_i32_219 : BitVec 32 := 1#32
  let v310 : BitVec 32 := Scalar.muli v308 c1_i32_219
  let v311 : BitVec 32 := Scalar.addi c0_i32_220 v310
  v311.toNat
def k0_dev21 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_224 : BitVec 32 := 6#32
  let v319 : BitVec 32 := Scalar.addi v2 c6_i32_224
  let c16_i32_225 : BitVec 32 := 16#32
  let c0_i32_226 : BitVec 32 := 0#32
  let v320 : BitVec 1 := Scalar.cmpi .eq c16_i32_225 c0_i32_226
  let c1_i32_227 : BitVec 32 := 1#32
  let v321 : BitVec 32 := Scalar.select v320 c1_i32_227 c16_i32_225
  let v322 : BitVec 32 := Scalar.remsi v319 v321
  let c0_i32_229 : BitVec 32 := 0#32
  let v324 : BitVec 1 := Scalar.cmpi .slt v322 c0_i32_229
  let c0_i32_230 : BitVec 32 := 0#32
  let v325 : BitVec 1 := Scalar.cmpi .slt v321 c0_i32_230
  let v326 : BitVec 1 := Scalar.xori v324 v325
  let c0_i32_228 : BitVec 32 := 0#32
  let v323 : BitVec 1 := Scalar.cmpi .ne v322 c0_i32_228
  let v327 : BitVec 1 := Scalar.andi v326 v323
  let v328 : BitVec 32 := Scalar.addi v322 v321
  let v329 : BitVec 32 := Scalar.select v327 v328 v322
  let c1_i32_235 : BitVec 32 := 1#32
  let v331 : BitVec 32 := Scalar.muli v329 c1_i32_235
  let v332 : BitVec 32 := Scalar.addi c0_i32_236 v331
  v332.toNat
def k0_dev22 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_240 : BitVec 32 := 7#32
  let v340 : BitVec 32 := Scalar.addi v2 c7_i32_240
  let c16_i32_241 : BitVec 32 := 16#32
  let c0_i32_242 : BitVec 32 := 0#32
  let v341 : BitVec 1 := Scalar.cmpi .eq c16_i32_241 c0_i32_242
  let c1_i32_243 : BitVec 32 := 1#32
  let v342 : BitVec 32 := Scalar.select v341 c1_i32_243 c16_i32_241
  let v343 : BitVec 32 := Scalar.remsi v340 v342
  let c0_i32_245 : BitVec 32 := 0#32
  let v345 : BitVec 1 := Scalar.cmpi .slt v343 c0_i32_245
  let c0_i32_246 : BitVec 32 := 0#32
  let v346 : BitVec 1 := Scalar.cmpi .slt v342 c0_i32_246
  let v347 : BitVec 1 := Scalar.xori v345 v346
  let c0_i32_244 : BitVec 32 := 0#32
  let v344 : BitVec 1 := Scalar.cmpi .ne v343 c0_i32_244
  let v348 : BitVec 1 := Scalar.andi v347 v344
  let v349 : BitVec 32 := Scalar.addi v343 v342
  let v350 : BitVec 32 := Scalar.select v348 v349 v343
  let c1_i32_251 : BitVec 32 := 1#32
  let v352 : BitVec 32 := Scalar.muli v350 c1_i32_251
  let v353 : BitVec 32 := Scalar.addi c0_i32_252 v352
  v353.toNat
def k0_dev23 (d0 : Dev nD) : Nat :=
  let c0_i32_268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_256 : BitVec 32 := 8#32
  let v361 : BitVec 32 := Scalar.addi v2 c8_i32_256
  let c16_i32_257 : BitVec 32 := 16#32
  let c0_i32_258 : BitVec 32 := 0#32
  let v362 : BitVec 1 := Scalar.cmpi .eq c16_i32_257 c0_i32_258
  let c1_i32_259 : BitVec 32 := 1#32
  let v363 : BitVec 32 := Scalar.select v362 c1_i32_259 c16_i32_257
  let v364 : BitVec 32 := Scalar.remsi v361 v363
  let c0_i32_261 : BitVec 32 := 0#32
  let v366 : BitVec 1 := Scalar.cmpi .slt v364 c0_i32_261
  let c0_i32_262 : BitVec 32 := 0#32
  let v367 : BitVec 1 := Scalar.cmpi .slt v363 c0_i32_262
  let v368 : BitVec 1 := Scalar.xori v366 v367
  let c0_i32_260 : BitVec 32 := 0#32
  let v365 : BitVec 1 := Scalar.cmpi .ne v364 c0_i32_260
  let v369 : BitVec 1 := Scalar.andi v368 v365
  let v370 : BitVec 32 := Scalar.addi v364 v363
  let v371 : BitVec 32 := Scalar.select v369 v370 v364
  let c1_i32_267 : BitVec 32 := 1#32
  let v373 : BitVec 32 := Scalar.muli v371 c1_i32_267
  let v374 : BitVec 32 := Scalar.addi c0_i32_268 v373
  v374.toNat
def k0_dev24 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_272 : BitVec 32 := 9#32
  let v382 : BitVec 32 := Scalar.addi v2 c9_i32_272
  let c16_i32_273 : BitVec 32 := 16#32
  let c0_i32_274 : BitVec 32 := 0#32
  let v383 : BitVec 1 := Scalar.cmpi .eq c16_i32_273 c0_i32_274
  let c1_i32_275 : BitVec 32 := 1#32
  let v384 : BitVec 32 := Scalar.select v383 c1_i32_275 c16_i32_273
  let v385 : BitVec 32 := Scalar.remsi v382 v384
  let c0_i32_277 : BitVec 32 := 0#32
  let v387 : BitVec 1 := Scalar.cmpi .slt v385 c0_i32_277
  let c0_i32_278 : BitVec 32 := 0#32
  let v388 : BitVec 1 := Scalar.cmpi .slt v384 c0_i32_278
  let v389 : BitVec 1 := Scalar.xori v387 v388
  let c0_i32_276 : BitVec 32 := 0#32
  let v386 : BitVec 1 := Scalar.cmpi .ne v385 c0_i32_276
  let v390 : BitVec 1 := Scalar.andi v389 v386
  let v391 : BitVec 32 := Scalar.addi v385 v384
  let v392 : BitVec 32 := Scalar.select v390 v391 v385
  let c1_i32_283 : BitVec 32 := 1#32
  let v394 : BitVec 32 := Scalar.muli v392 c1_i32_283
  let v395 : BitVec 32 := Scalar.addi c0_i32_284 v394
  v395.toNat
def k0_dev25 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_288 : BitVec 32 := 10#32
  let v403 : BitVec 32 := Scalar.addi v2 c10_i32_288
  let c16_i32_289 : BitVec 32 := 16#32
  let c0_i32_290 : BitVec 32 := 0#32
  let v404 : BitVec 1 := Scalar.cmpi .eq c16_i32_289 c0_i32_290
  let c1_i32_291 : BitVec 32 := 1#32
  let v405 : BitVec 32 := Scalar.select v404 c1_i32_291 c16_i32_289
  let v406 : BitVec 32 := Scalar.remsi v403 v405
  let c0_i32_293 : BitVec 32 := 0#32
  let v408 : BitVec 1 := Scalar.cmpi .slt v406 c0_i32_293
  let c0_i32_294 : BitVec 32 := 0#32
  let v409 : BitVec 1 := Scalar.cmpi .slt v405 c0_i32_294
  let v410 : BitVec 1 := Scalar.xori v408 v409
  let c0_i32_292 : BitVec 32 := 0#32
  let v407 : BitVec 1 := Scalar.cmpi .ne v406 c0_i32_292
  let v411 : BitVec 1 := Scalar.andi v410 v407
  let v412 : BitVec 32 := Scalar.addi v406 v405
  let v413 : BitVec 32 := Scalar.select v411 v412 v406
  let c1_i32_299 : BitVec 32 := 1#32
  let v415 : BitVec 32 := Scalar.muli v413 c1_i32_299
  let v416 : BitVec 32 := Scalar.addi c0_i32_300 v415
  v416.toNat
def k0_dev26 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_304 : BitVec 32 := 11#32
  let v424 : BitVec 32 := Scalar.addi v2 c11_i32_304
  let c16_i32_305 : BitVec 32 := 16#32
  let c0_i32_306 : BitVec 32 := 0#32
  let v425 : BitVec 1 := Scalar.cmpi .eq c16_i32_305 c0_i32_306
  let c1_i32_307 : BitVec 32 := 1#32
  let v426 : BitVec 32 := Scalar.select v425 c1_i32_307 c16_i32_305
  let v427 : BitVec 32 := Scalar.remsi v424 v426
  let c0_i32_309 : BitVec 32 := 0#32
  let v429 : BitVec 1 := Scalar.cmpi .slt v427 c0_i32_309
  let c0_i32_310 : BitVec 32 := 0#32
  let v430 : BitVec 1 := Scalar.cmpi .slt v426 c0_i32_310
  let v431 : BitVec 1 := Scalar.xori v429 v430
  let c0_i32_308 : BitVec 32 := 0#32
  let v428 : BitVec 1 := Scalar.cmpi .ne v427 c0_i32_308
  let v432 : BitVec 1 := Scalar.andi v431 v428
  let v433 : BitVec 32 := Scalar.addi v427 v426
  let v434 : BitVec 32 := Scalar.select v432 v433 v427
  let c1_i32_315 : BitVec 32 := 1#32
  let v436 : BitVec 32 := Scalar.muli v434 c1_i32_315
  let v437 : BitVec 32 := Scalar.addi c0_i32_316 v436
  v437.toNat
def k0_dev27 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_320 : BitVec 32 := 12#32
  let v445 : BitVec 32 := Scalar.addi v2 c12_i32_320
  let c16_i32_321 : BitVec 32 := 16#32
  let c0_i32_322 : BitVec 32 := 0#32
  let v446 : BitVec 1 := Scalar.cmpi .eq c16_i32_321 c0_i32_322
  let c1_i32_323 : BitVec 32 := 1#32
  let v447 : BitVec 32 := Scalar.select v446 c1_i32_323 c16_i32_321
  let v448 : BitVec 32 := Scalar.remsi v445 v447
  let c0_i32_325 : BitVec 32 := 0#32
  let v450 : BitVec 1 := Scalar.cmpi .slt v448 c0_i32_325
  let c0_i32_326 : BitVec 32 := 0#32
  let v451 : BitVec 1 := Scalar.cmpi .slt v447 c0_i32_326
  let v452 : BitVec 1 := Scalar.xori v450 v451
  let c0_i32_324 : BitVec 32 := 0#32
  let v449 : BitVec 1 := Scalar.cmpi .ne v448 c0_i32_324
  let v453 : BitVec 1 := Scalar.andi v452 v449
  let v454 : BitVec 32 := Scalar.addi v448 v447
  let v455 : BitVec 32 := Scalar.select v453 v454 v448
  let c1_i32_331 : BitVec 32 := 1#32
  let v457 : BitVec 32 := Scalar.muli v455 c1_i32_331
  let v458 : BitVec 32 := Scalar.addi c0_i32_332 v457
  v458.toNat
def k0_dev28 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_336 : BitVec 32 := 13#32
  let v466 : BitVec 32 := Scalar.addi v2 c13_i32_336
  let c16_i32_337 : BitVec 32 := 16#32
  let c0_i32_338 : BitVec 32 := 0#32
  let v467 : BitVec 1 := Scalar.cmpi .eq c16_i32_337 c0_i32_338
  let c1_i32_339 : BitVec 32 := 1#32
  let v468 : BitVec 32 := Scalar.select v467 c1_i32_339 c16_i32_337
  let v469 : BitVec 32 := Scalar.remsi v466 v468
  let c0_i32_341 : BitVec 32 := 0#32
  let v471 : BitVec 1 := Scalar.cmpi .slt v469 c0_i32_341
  let c0_i32_342 : BitVec 32 := 0#32
  let v472 : BitVec 1 := Scalar.cmpi .slt v468 c0_i32_342
  let v473 : BitVec 1 := Scalar.xori v471 v472
  let c0_i32_340 : BitVec 32 := 0#32
  let v470 : BitVec 1 := Scalar.cmpi .ne v469 c0_i32_340
  let v474 : BitVec 1 := Scalar.andi v473 v470
  let v475 : BitVec 32 := Scalar.addi v469 v468
  let v476 : BitVec 32 := Scalar.select v474 v475 v469
  let c1_i32_347 : BitVec 32 := 1#32
  let v478 : BitVec 32 := Scalar.muli v476 c1_i32_347
  let v479 : BitVec 32 := Scalar.addi c0_i32_348 v478
  v479.toNat
def k0_dev29 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_352 : BitVec 32 := 14#32
  let v487 : BitVec 32 := Scalar.addi v2 c14_i32_352
  let c16_i32_353 : BitVec 32 := 16#32
  let c0_i32_354 : BitVec 32 := 0#32
  let v488 : BitVec 1 := Scalar.cmpi .eq c16_i32_353 c0_i32_354
  let c1_i32_355 : BitVec 32 := 1#32
  let v489 : BitVec 32 := Scalar.select v488 c1_i32_355 c16_i32_353
  let v490 : BitVec 32 := Scalar.remsi v487 v489
  let c0_i32_357 : BitVec 32 := 0#32
  let v492 : BitVec 1 := Scalar.cmpi .slt v490 c0_i32_357
  let c0_i32_358 : BitVec 32 := 0#32
  let v493 : BitVec 1 := Scalar.cmpi .slt v489 c0_i32_358
  let v494 : BitVec 1 := Scalar.xori v492 v493
  let c0_i32_356 : BitVec 32 := 0#32
  let v491 : BitVec 1 := Scalar.cmpi .ne v490 c0_i32_356
  let v495 : BitVec 1 := Scalar.andi v494 v491
  let v496 : BitVec 32 := Scalar.addi v490 v489
  let v497 : BitVec 32 := Scalar.select v495 v496 v490
  let c1_i32_363 : BitVec 32 := 1#32
  let v499 : BitVec 32 := Scalar.muli v497 c1_i32_363
  let v500 : BitVec 32 := Scalar.addi c0_i32_364 v499
  v500.toNat
def k0_dev30 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_368 : BitVec 32 := 15#32
  let v508 : BitVec 32 := Scalar.addi v2 c15_i32_368
  let c16_i32_369 : BitVec 32 := 16#32
  let c0_i32_370 : BitVec 32 := 0#32
  let v509 : BitVec 1 := Scalar.cmpi .eq c16_i32_369 c0_i32_370
  let c1_i32_371 : BitVec 32 := 1#32
  let v510 : BitVec 32 := Scalar.select v509 c1_i32_371 c16_i32_369
  let v511 : BitVec 32 := Scalar.remsi v508 v510
  let c0_i32_373 : BitVec 32 := 0#32
  let v513 : BitVec 1 := Scalar.cmpi .slt v511 c0_i32_373
  let c0_i32_374 : BitVec 32 := 0#32
  let v514 : BitVec 1 := Scalar.cmpi .slt v510 c0_i32_374
  let v515 : BitVec 1 := Scalar.xori v513 v514
  let c0_i32_372 : BitVec 32 := 0#32
  let v512 : BitVec 1 := Scalar.cmpi .ne v511 c0_i32_372
  let v516 : BitVec 1 := Scalar.andi v515 v512
  let v517 : BitVec 32 := Scalar.addi v511 v510
  let v518 : BitVec 32 := Scalar.select v516 v517 v511
  let c1_i32_379 : BitVec 32 := 1#32
  let v520 : BitVec 32 := Scalar.muli v518 c1_i32_379
  let v521 : BitVec 32 := Scalar.addi c0_i32_380 v520
  v521.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c48_i32_384 : BitVec 32 := 48#32
  let v529 : BitVec 32 := Scalar.muli v2 c48_i32_384
  let v530 : Index := Scalar.indexCast v529
  let c0_385 : Index := 0#32
  ![v530.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c48_i32_546 : BitVec 32 := 48#32
  let v713 : BitVec 32 := Scalar.muli v2 c48_i32_546
  let c0_i32_551 : BitVec 32 := 0#32
  ![v713.toNat, 0]
def k0_dev31 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_539 : BitVec 32 := 1#32
  let v702 : BitVec 32 := Scalar.addi v2 c1_i32_539
  let c16_i32_540 : BitVec 32 := 16#32
  let c0_i32_541 : BitVec 32 := 0#32
  let v703 : BitVec 1 := Scalar.cmpi .eq c16_i32_540 c0_i32_541
  let c1_i32_542 : BitVec 32 := 1#32
  let v704 : BitVec 32 := Scalar.select v703 c1_i32_542 c16_i32_540
  let v705 : BitVec 32 := Scalar.remsi v702 v704
  let c0_i32_544 : BitVec 32 := 0#32
  let v707 : BitVec 1 := Scalar.cmpi .slt v705 c0_i32_544
  let c0_i32_545 : BitVec 32 := 0#32
  let v708 : BitVec 1 := Scalar.cmpi .slt v704 c0_i32_545
  let v709 : BitVec 1 := Scalar.xori v707 v708
  let c0_i32_543 : BitVec 32 := 0#32
  let v706 : BitVec 1 := Scalar.cmpi .ne v705 c0_i32_543
  let v710 : BitVec 1 := Scalar.andi v709 v706
  let v711 : BitVec 32 := Scalar.addi v705 v704
  let v712 : BitVec 32 := Scalar.select v710 v711 v705
  let c1_i32_549 : BitVec 32 := 1#32
  let v714 : BitVec 32 := Scalar.muli v712 c1_i32_549
  let v715 : BitVec 32 := Scalar.addi c0_i32_550 v714
  v715.toNat
def k0_dev32 (d0 : Dev nD) : Nat :=
  let c0_i32_563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_552 : BitVec 32 := 2#32
  let v721 : BitVec 32 := Scalar.addi v2 c2_i32_552
  let c16_i32_553 : BitVec 32 := 16#32
  let c0_i32_554 : BitVec 32 := 0#32
  let v722 : BitVec 1 := Scalar.cmpi .eq c16_i32_553 c0_i32_554
  let c1_i32_555 : BitVec 32 := 1#32
  let v723 : BitVec 32 := Scalar.select v722 c1_i32_555 c16_i32_553
  let v724 : BitVec 32 := Scalar.remsi v721 v723
  let c0_i32_557 : BitVec 32 := 0#32
  let v726 : BitVec 1 := Scalar.cmpi .slt v724 c0_i32_557
  let c0_i32_558 : BitVec 32 := 0#32
  let v727 : BitVec 1 := Scalar.cmpi .slt v723 c0_i32_558
  let v728 : BitVec 1 := Scalar.xori v726 v727
  let c0_i32_556 : BitVec 32 := 0#32
  let v725 : BitVec 1 := Scalar.cmpi .ne v724 c0_i32_556
  let v729 : BitVec 1 := Scalar.andi v728 v725
  let v730 : BitVec 32 := Scalar.addi v724 v723
  let v731 : BitVec 32 := Scalar.select v729 v730 v724
  let c1_i32_562 : BitVec 32 := 1#32
  let v733 : BitVec 32 := Scalar.muli v731 c1_i32_562
  let v734 : BitVec 32 := Scalar.addi c0_i32_563 v733
  v734.toNat
def k0_dev33 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_565 : BitVec 32 := 3#32
  let v740 : BitVec 32 := Scalar.addi v2 c3_i32_565
  let c16_i32_566 : BitVec 32 := 16#32
  let c0_i32_567 : BitVec 32 := 0#32
  let v741 : BitVec 1 := Scalar.cmpi .eq c16_i32_566 c0_i32_567
  let c1_i32_568 : BitVec 32 := 1#32
  let v742 : BitVec 32 := Scalar.select v741 c1_i32_568 c16_i32_566
  let v743 : BitVec 32 := Scalar.remsi v740 v742
  let c0_i32_570 : BitVec 32 := 0#32
  let v745 : BitVec 1 := Scalar.cmpi .slt v743 c0_i32_570
  let c0_i32_571 : BitVec 32 := 0#32
  let v746 : BitVec 1 := Scalar.cmpi .slt v742 c0_i32_571
  let v747 : BitVec 1 := Scalar.xori v745 v746
  let c0_i32_569 : BitVec 32 := 0#32
  let v744 : BitVec 1 := Scalar.cmpi .ne v743 c0_i32_569
  let v748 : BitVec 1 := Scalar.andi v747 v744
  let v749 : BitVec 32 := Scalar.addi v743 v742
  let v750 : BitVec 32 := Scalar.select v748 v749 v743
  let c1_i32_575 : BitVec 32 := 1#32
  let v752 : BitVec 32 := Scalar.muli v750 c1_i32_575
  let v753 : BitVec 32 := Scalar.addi c0_i32_576 v752
  v753.toNat
def k0_dev34 (d0 : Dev nD) : Nat :=
  let c0_i32_589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_578 : BitVec 32 := 4#32
  let v759 : BitVec 32 := Scalar.addi v2 c4_i32_578
  let c16_i32_579 : BitVec 32 := 16#32
  let c0_i32_580 : BitVec 32 := 0#32
  let v760 : BitVec 1 := Scalar.cmpi .eq c16_i32_579 c0_i32_580
  let c1_i32_581 : BitVec 32 := 1#32
  let v761 : BitVec 32 := Scalar.select v760 c1_i32_581 c16_i32_579
  let v762 : BitVec 32 := Scalar.remsi v759 v761
  let c0_i32_583 : BitVec 32 := 0#32
  let v764 : BitVec 1 := Scalar.cmpi .slt v762 c0_i32_583
  let c0_i32_584 : BitVec 32 := 0#32
  let v765 : BitVec 1 := Scalar.cmpi .slt v761 c0_i32_584
  let v766 : BitVec 1 := Scalar.xori v764 v765
  let c0_i32_582 : BitVec 32 := 0#32
  let v763 : BitVec 1 := Scalar.cmpi .ne v762 c0_i32_582
  let v767 : BitVec 1 := Scalar.andi v766 v763
  let v768 : BitVec 32 := Scalar.addi v762 v761
  let v769 : BitVec 32 := Scalar.select v767 v768 v762
  let c1_i32_588 : BitVec 32 := 1#32
  let v771 : BitVec 32 := Scalar.muli v769 c1_i32_588
  let v772 : BitVec 32 := Scalar.addi c0_i32_589 v771
  v772.toNat
def k0_dev35 (d0 : Dev nD) : Nat :=
  let c0_i32_602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_591 : BitVec 32 := 5#32
  let v778 : BitVec 32 := Scalar.addi v2 c5_i32_591
  let c16_i32_592 : BitVec 32 := 16#32
  let c0_i32_593 : BitVec 32 := 0#32
  let v779 : BitVec 1 := Scalar.cmpi .eq c16_i32_592 c0_i32_593
  let c1_i32_594 : BitVec 32 := 1#32
  let v780 : BitVec 32 := Scalar.select v779 c1_i32_594 c16_i32_592
  let v781 : BitVec 32 := Scalar.remsi v778 v780
  let c0_i32_596 : BitVec 32 := 0#32
  let v783 : BitVec 1 := Scalar.cmpi .slt v781 c0_i32_596
  let c0_i32_597 : BitVec 32 := 0#32
  let v784 : BitVec 1 := Scalar.cmpi .slt v780 c0_i32_597
  let v785 : BitVec 1 := Scalar.xori v783 v784
  let c0_i32_595 : BitVec 32 := 0#32
  let v782 : BitVec 1 := Scalar.cmpi .ne v781 c0_i32_595
  let v786 : BitVec 1 := Scalar.andi v785 v782
  let v787 : BitVec 32 := Scalar.addi v781 v780
  let v788 : BitVec 32 := Scalar.select v786 v787 v781
  let c1_i32_601 : BitVec 32 := 1#32
  let v790 : BitVec 32 := Scalar.muli v788 c1_i32_601
  let v791 : BitVec 32 := Scalar.addi c0_i32_602 v790
  v791.toNat
def k0_dev36 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_604 : BitVec 32 := 6#32
  let v797 : BitVec 32 := Scalar.addi v2 c6_i32_604
  let c16_i32_605 : BitVec 32 := 16#32
  let c0_i32_606 : BitVec 32 := 0#32
  let v798 : BitVec 1 := Scalar.cmpi .eq c16_i32_605 c0_i32_606
  let c1_i32_607 : BitVec 32 := 1#32
  let v799 : BitVec 32 := Scalar.select v798 c1_i32_607 c16_i32_605
  let v800 : BitVec 32 := Scalar.remsi v797 v799
  let c0_i32_609 : BitVec 32 := 0#32
  let v802 : BitVec 1 := Scalar.cmpi .slt v800 c0_i32_609
  let c0_i32_610 : BitVec 32 := 0#32
  let v803 : BitVec 1 := Scalar.cmpi .slt v799 c0_i32_610
  let v804 : BitVec 1 := Scalar.xori v802 v803
  let c0_i32_608 : BitVec 32 := 0#32
  let v801 : BitVec 1 := Scalar.cmpi .ne v800 c0_i32_608
  let v805 : BitVec 1 := Scalar.andi v804 v801
  let v806 : BitVec 32 := Scalar.addi v800 v799
  let v807 : BitVec 32 := Scalar.select v805 v806 v800
  let c1_i32_614 : BitVec 32 := 1#32
  let v809 : BitVec 32 := Scalar.muli v807 c1_i32_614
  let v810 : BitVec 32 := Scalar.addi c0_i32_615 v809
  v810.toNat
def k0_dev37 (d0 : Dev nD) : Nat :=
  let c0_i32_628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_617 : BitVec 32 := 7#32
  let v816 : BitVec 32 := Scalar.addi v2 c7_i32_617
  let c16_i32_618 : BitVec 32 := 16#32
  let c0_i32_619 : BitVec 32 := 0#32
  let v817 : BitVec 1 := Scalar.cmpi .eq c16_i32_618 c0_i32_619
  let c1_i32_620 : BitVec 32 := 1#32
  let v818 : BitVec 32 := Scalar.select v817 c1_i32_620 c16_i32_618
  let v819 : BitVec 32 := Scalar.remsi v816 v818
  let c0_i32_622 : BitVec 32 := 0#32
  let v821 : BitVec 1 := Scalar.cmpi .slt v819 c0_i32_622
  let c0_i32_623 : BitVec 32 := 0#32
  let v822 : BitVec 1 := Scalar.cmpi .slt v818 c0_i32_623
  let v823 : BitVec 1 := Scalar.xori v821 v822
  let c0_i32_621 : BitVec 32 := 0#32
  let v820 : BitVec 1 := Scalar.cmpi .ne v819 c0_i32_621
  let v824 : BitVec 1 := Scalar.andi v823 v820
  let v825 : BitVec 32 := Scalar.addi v819 v818
  let v826 : BitVec 32 := Scalar.select v824 v825 v819
  let c1_i32_627 : BitVec 32 := 1#32
  let v828 : BitVec 32 := Scalar.muli v826 c1_i32_627
  let v829 : BitVec 32 := Scalar.addi c0_i32_628 v828
  v829.toNat
def k0_dev38 (d0 : Dev nD) : Nat :=
  let c0_i32_641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_630 : BitVec 32 := 8#32
  let v835 : BitVec 32 := Scalar.addi v2 c8_i32_630
  let c16_i32_631 : BitVec 32 := 16#32
  let c0_i32_632 : BitVec 32 := 0#32
  let v836 : BitVec 1 := Scalar.cmpi .eq c16_i32_631 c0_i32_632
  let c1_i32_633 : BitVec 32 := 1#32
  let v837 : BitVec 32 := Scalar.select v836 c1_i32_633 c16_i32_631
  let v838 : BitVec 32 := Scalar.remsi v835 v837
  let c0_i32_635 : BitVec 32 := 0#32
  let v840 : BitVec 1 := Scalar.cmpi .slt v838 c0_i32_635
  let c0_i32_636 : BitVec 32 := 0#32
  let v841 : BitVec 1 := Scalar.cmpi .slt v837 c0_i32_636
  let v842 : BitVec 1 := Scalar.xori v840 v841
  let c0_i32_634 : BitVec 32 := 0#32
  let v839 : BitVec 1 := Scalar.cmpi .ne v838 c0_i32_634
  let v843 : BitVec 1 := Scalar.andi v842 v839
  let v844 : BitVec 32 := Scalar.addi v838 v837
  let v845 : BitVec 32 := Scalar.select v843 v844 v838
  let c1_i32_640 : BitVec 32 := 1#32
  let v847 : BitVec 32 := Scalar.muli v845 c1_i32_640
  let v848 : BitVec 32 := Scalar.addi c0_i32_641 v847
  v848.toNat
def k0_dev39 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_643 : BitVec 32 := 9#32
  let v854 : BitVec 32 := Scalar.addi v2 c9_i32_643
  let c16_i32_644 : BitVec 32 := 16#32
  let c0_i32_645 : BitVec 32 := 0#32
  let v855 : BitVec 1 := Scalar.cmpi .eq c16_i32_644 c0_i32_645
  let c1_i32_646 : BitVec 32 := 1#32
  let v856 : BitVec 32 := Scalar.select v855 c1_i32_646 c16_i32_644
  let v857 : BitVec 32 := Scalar.remsi v854 v856
  let c0_i32_648 : BitVec 32 := 0#32
  let v859 : BitVec 1 := Scalar.cmpi .slt v857 c0_i32_648
  let c0_i32_649 : BitVec 32 := 0#32
  let v860 : BitVec 1 := Scalar.cmpi .slt v856 c0_i32_649
  let v861 : BitVec 1 := Scalar.xori v859 v860
  let c0_i32_647 : BitVec 32 := 0#32
  let v858 : BitVec 1 := Scalar.cmpi .ne v857 c0_i32_647
  let v862 : BitVec 1 := Scalar.andi v861 v858
  let v863 : BitVec 32 := Scalar.addi v857 v856
  let v864 : BitVec 32 := Scalar.select v862 v863 v857
  let c1_i32_653 : BitVec 32 := 1#32
  let v866 : BitVec 32 := Scalar.muli v864 c1_i32_653
  let v867 : BitVec 32 := Scalar.addi c0_i32_654 v866
  v867.toNat
def k0_dev40 (d0 : Dev nD) : Nat :=
  let c0_i32_667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_656 : BitVec 32 := 10#32
  let v873 : BitVec 32 := Scalar.addi v2 c10_i32_656
  let c16_i32_657 : BitVec 32 := 16#32
  let c0_i32_658 : BitVec 32 := 0#32
  let v874 : BitVec 1 := Scalar.cmpi .eq c16_i32_657 c0_i32_658
  let c1_i32_659 : BitVec 32 := 1#32
  let v875 : BitVec 32 := Scalar.select v874 c1_i32_659 c16_i32_657
  let v876 : BitVec 32 := Scalar.remsi v873 v875
  let c0_i32_661 : BitVec 32 := 0#32
  let v878 : BitVec 1 := Scalar.cmpi .slt v876 c0_i32_661
  let c0_i32_662 : BitVec 32 := 0#32
  let v879 : BitVec 1 := Scalar.cmpi .slt v875 c0_i32_662
  let v880 : BitVec 1 := Scalar.xori v878 v879
  let c0_i32_660 : BitVec 32 := 0#32
  let v877 : BitVec 1 := Scalar.cmpi .ne v876 c0_i32_660
  let v881 : BitVec 1 := Scalar.andi v880 v877
  let v882 : BitVec 32 := Scalar.addi v876 v875
  let v883 : BitVec 32 := Scalar.select v881 v882 v876
  let c1_i32_666 : BitVec 32 := 1#32
  let v885 : BitVec 32 := Scalar.muli v883 c1_i32_666
  let v886 : BitVec 32 := Scalar.addi c0_i32_667 v885
  v886.toNat
def k0_dev41 (d0 : Dev nD) : Nat :=
  let c0_i32_680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_669 : BitVec 32 := 11#32
  let v892 : BitVec 32 := Scalar.addi v2 c11_i32_669
  let c16_i32_670 : BitVec 32 := 16#32
  let c0_i32_671 : BitVec 32 := 0#32
  let v893 : BitVec 1 := Scalar.cmpi .eq c16_i32_670 c0_i32_671
  let c1_i32_672 : BitVec 32 := 1#32
  let v894 : BitVec 32 := Scalar.select v893 c1_i32_672 c16_i32_670
  let v895 : BitVec 32 := Scalar.remsi v892 v894
  let c0_i32_674 : BitVec 32 := 0#32
  let v897 : BitVec 1 := Scalar.cmpi .slt v895 c0_i32_674
  let c0_i32_675 : BitVec 32 := 0#32
  let v898 : BitVec 1 := Scalar.cmpi .slt v894 c0_i32_675
  let v899 : BitVec 1 := Scalar.xori v897 v898
  let c0_i32_673 : BitVec 32 := 0#32
  let v896 : BitVec 1 := Scalar.cmpi .ne v895 c0_i32_673
  let v900 : BitVec 1 := Scalar.andi v899 v896
  let v901 : BitVec 32 := Scalar.addi v895 v894
  let v902 : BitVec 32 := Scalar.select v900 v901 v895
  let c1_i32_679 : BitVec 32 := 1#32
  let v904 : BitVec 32 := Scalar.muli v902 c1_i32_679
  let v905 : BitVec 32 := Scalar.addi c0_i32_680 v904
  v905.toNat
def k0_dev42 (d0 : Dev nD) : Nat :=
  let c0_i32_693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_682 : BitVec 32 := 12#32
  let v911 : BitVec 32 := Scalar.addi v2 c12_i32_682
  let c16_i32_683 : BitVec 32 := 16#32
  let c0_i32_684 : BitVec 32 := 0#32
  let v912 : BitVec 1 := Scalar.cmpi .eq c16_i32_683 c0_i32_684
  let c1_i32_685 : BitVec 32 := 1#32
  let v913 : BitVec 32 := Scalar.select v912 c1_i32_685 c16_i32_683
  let v914 : BitVec 32 := Scalar.remsi v911 v913
  let c0_i32_687 : BitVec 32 := 0#32
  let v916 : BitVec 1 := Scalar.cmpi .slt v914 c0_i32_687
  let c0_i32_688 : BitVec 32 := 0#32
  let v917 : BitVec 1 := Scalar.cmpi .slt v913 c0_i32_688
  let v918 : BitVec 1 := Scalar.xori v916 v917
  let c0_i32_686 : BitVec 32 := 0#32
  let v915 : BitVec 1 := Scalar.cmpi .ne v914 c0_i32_686
  let v919 : BitVec 1 := Scalar.andi v918 v915
  let v920 : BitVec 32 := Scalar.addi v914 v913
  let v921 : BitVec 32 := Scalar.select v919 v920 v914
  let c1_i32_692 : BitVec 32 := 1#32
  let v923 : BitVec 32 := Scalar.muli v921 c1_i32_692
  let v924 : BitVec 32 := Scalar.addi c0_i32_693 v923
  v924.toNat
def k0_dev43 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_695 : BitVec 32 := 13#32
  let v930 : BitVec 32 := Scalar.addi v2 c13_i32_695
  let c16_i32_696 : BitVec 32 := 16#32
  let c0_i32_697 : BitVec 32 := 0#32
  let v931 : BitVec 1 := Scalar.cmpi .eq c16_i32_696 c0_i32_697
  let c1_i32_698 : BitVec 32 := 1#32
  let v932 : BitVec 32 := Scalar.select v931 c1_i32_698 c16_i32_696
  let v933 : BitVec 32 := Scalar.remsi v930 v932
  let c0_i32_700 : BitVec 32 := 0#32
  let v935 : BitVec 1 := Scalar.cmpi .slt v933 c0_i32_700
  let c0_i32_701 : BitVec 32 := 0#32
  let v936 : BitVec 1 := Scalar.cmpi .slt v932 c0_i32_701
  let v937 : BitVec 1 := Scalar.xori v935 v936
  let c0_i32_699 : BitVec 32 := 0#32
  let v934 : BitVec 1 := Scalar.cmpi .ne v933 c0_i32_699
  let v938 : BitVec 1 := Scalar.andi v937 v934
  let v939 : BitVec 32 := Scalar.addi v933 v932
  let v940 : BitVec 32 := Scalar.select v938 v939 v933
  let c1_i32_705 : BitVec 32 := 1#32
  let v942 : BitVec 32 := Scalar.muli v940 c1_i32_705
  let v943 : BitVec 32 := Scalar.addi c0_i32_706 v942
  v943.toNat
def k0_dev44 (d0 : Dev nD) : Nat :=
  let c0_i32_719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_708 : BitVec 32 := 14#32
  let v949 : BitVec 32 := Scalar.addi v2 c14_i32_708
  let c16_i32_709 : BitVec 32 := 16#32
  let c0_i32_710 : BitVec 32 := 0#32
  let v950 : BitVec 1 := Scalar.cmpi .eq c16_i32_709 c0_i32_710
  let c1_i32_711 : BitVec 32 := 1#32
  let v951 : BitVec 32 := Scalar.select v950 c1_i32_711 c16_i32_709
  let v952 : BitVec 32 := Scalar.remsi v949 v951
  let c0_i32_713 : BitVec 32 := 0#32
  let v954 : BitVec 1 := Scalar.cmpi .slt v952 c0_i32_713
  let c0_i32_714 : BitVec 32 := 0#32
  let v955 : BitVec 1 := Scalar.cmpi .slt v951 c0_i32_714
  let v956 : BitVec 1 := Scalar.xori v954 v955
  let c0_i32_712 : BitVec 32 := 0#32
  let v953 : BitVec 1 := Scalar.cmpi .ne v952 c0_i32_712
  let v957 : BitVec 1 := Scalar.andi v956 v953
  let v958 : BitVec 32 := Scalar.addi v952 v951
  let v959 : BitVec 32 := Scalar.select v957 v958 v952
  let c1_i32_718 : BitVec 32 := 1#32
  let v961 : BitVec 32 := Scalar.muli v959 c1_i32_718
  let v962 : BitVec 32 := Scalar.addi c0_i32_719 v961
  v962.toNat
def k0_dev45 (d0 : Dev nD) : Nat :=
  let c0_i32_732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_721 : BitVec 32 := 15#32
  let v968 : BitVec 32 := Scalar.addi v2 c15_i32_721
  let c16_i32_722 : BitVec 32 := 16#32
  let c0_i32_723 : BitVec 32 := 0#32
  let v969 : BitVec 1 := Scalar.cmpi .eq c16_i32_722 c0_i32_723
  let c1_i32_724 : BitVec 32 := 1#32
  let v970 : BitVec 32 := Scalar.select v969 c1_i32_724 c16_i32_722
  let v971 : BitVec 32 := Scalar.remsi v968 v970
  let c0_i32_726 : BitVec 32 := 0#32
  let v973 : BitVec 1 := Scalar.cmpi .slt v971 c0_i32_726
  let c0_i32_727 : BitVec 32 := 0#32
  let v974 : BitVec 1 := Scalar.cmpi .slt v970 c0_i32_727
  let v975 : BitVec 1 := Scalar.xori v973 v974
  let c0_i32_725 : BitVec 32 := 0#32
  let v972 : BitVec 1 := Scalar.cmpi .ne v971 c0_i32_725
  let v976 : BitVec 1 := Scalar.andi v975 v972
  let v977 : BitVec 32 := Scalar.addi v971 v970
  let v978 : BitVec 32 := Scalar.select v976 v977 v971
  let c1_i32_731 : BitVec 32 := 1#32
  let v980 : BitVec 32 := Scalar.muli v978 c1_i32_731
  let v981 : BitVec 32 := Scalar.addi c0_i32_732 v980
  v981.toNat
abbrev stage0_0 : Fin 1 → Memref sig .tc .vmem S768x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S768x768 : Shape := ⟨2, ![768, 768]⟩
abbrev S768x24576 : Shape := ⟨2, ![768, 24576]⟩
abbrev S24576x768 : Shape := ⟨2, ![24576, 768]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S768x768, .bf16⟩
  | .hbm, ⟨1, _⟩ => ⟨S768x24576, .bf16⟩
  | .hbm, ⟨2, _⟩ => ⟨S24576x768, .bf16⟩
  | .hbm, ⟨3, _⟩ => ⟨S768x24576, .f32⟩
  | .hbm, ⟨4, _⟩ => ⟨S768x24576, .bf16⟩
  | .hbm, ⟨5, _⟩ => ⟨S_, .bf16⟩
  | .hbm, ⟨6, _⟩ => ⟨S768x24576, .bf16⟩
  | .hbm, ⟨7, _⟩ => ⟨S768x24576, .bf16⟩
  | .hbm, ⟨8, _⟩ => ⟨S768x768, .f32⟩
  | .hbm, ⟨9, _⟩ => ⟨S768x768, .bf16⟩
  | _, _ => ⟨S768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Geometry.lean ====
/-
The arithmetic of the exchange: which device talks to which, at which semaphore, over which rows.

Sixteen devices; step `e` (0 ≤ e < 15) of a device's loops reaches the device `e + 1` places after it
(`peer c e`) and is reached by the device `e + 1` places before it (`src c e`).  Device `p`'s rows of a
768-row array are rows `48 p … 48 p + 47` (`rowsS p`); step `e`'s landing slot is plane `e` of the
15 × 48 × 768 landing buffer (`slotS e`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCoords
public import Idealize.ShloMosaic.Lib.ValueIdx
public import Idealize.ShloMosaic.Lib.Pipeline.ValueKit.Geometry

@[expose] public section

set_option maxRecDepth 16384

noncomputable section

namespace Cert.FfnProof

open Cert.KernelIdeal Cert.KernelIdeal.Gen

open Idealize.ShloMosaic
open Idealize.ShloMosaic.TcCoe

/-! ## Devices -/

set_option backward.proofsInPublic true in
/-- The device `e + 1` places after `c`. -/
def peer (c : Dev nD) (e : Fin 15) : Dev nD := ⟨(c.val + e.val + 1) % 16, Nat.mod_lt _ (by decide)⟩
set_option backward.proofsInPublic true in
/-- The device `e + 1` places before `c`. -/
def src (c : Dev nD) (e : Fin 15) : Dev nD := ⟨(c.val + 15 - e.val) % 16, Nat.mod_lt _ (by decide)⟩

theorem peer_src (c : Dev nD) (e : Fin 15) : peer (src c e) e = c := by
  have hc : c.val < 16 := c.isLt; have := e.isLt; refine Fin.ext ?_; simp only [peer, src]; omega
theorem src_peer (c : Dev nD) (e : Fin 15) : src (peer c e) e = c := by
  have hc : c.val < 16 := c.isLt; have := e.isLt; refine Fin.ext ?_; simp only [peer, src]; omega
/-- Going forward by the complementary step goes back: the step complementary to `e` is `Fin.rev e`. -/
theorem peer_rev (c : Dev nD) (e : Fin 15) : peer c e.rev = src c e := by
  have hc : c.val < 16 := c.isLt; have := e.isLt; refine Fin.ext ?_; simp only [peer, src, Fin.val_rev]; omega
theorem src_rev (c : Dev nD) (e : Fin 15) : src c e.rev = peer c e := by
  rw [← peer_rev, Fin.rev_rev]
theorem peer_rev_peer (c : Dev nD) (e : Fin 15) : peer (peer c e) e.rev = c := by
  rw [peer_rev, src_peer]
theorem peer_ne (c : Dev nD) (e : Fin 15) : peer c e ≠ c := fun h => by
  have hc : c.val < 16 := c.isLt; have := e.isLt; have := congrArg Fin.val h; simp only [peer] at this; omega
theorem peer_inj (c : Dev nD) : Function.Injective (peer c) := fun a b h => by
  have hc : c.val < 16 := c.isLt; have := a.isLt; have := b.isLt; have := congrArg Fin.val h; simp only [peer] at this
  exact Fin.ext (by omega)
/-- Stepping forward by a fixed step is a permutation of the devices, stepping back its inverse. -/
def stepEquiv (e : Fin 15) : Dev nD ≃ Dev nD := ⟨fun c => peer c e, fun c => src c e, fun c => src_peer c e, fun c => peer_src c e⟩

/-- Every device is `c` or one of its fifteen peers. -/
theorem univ_eq_peers (c : Dev nD) : (Finset.univ : Finset (Dev nD)) = insert c (Finset.univ.map ⟨peer c, peer_inj c⟩) := by
  refine (Finset.eq_univ_iff_forall.mpr fun x => ?_).symm
  by_cases h : x = c
  · exact Finset.mem_insert.mpr (.inl h)
  · refine Finset.mem_insert.mpr (.inr (Finset.mem_map.mpr ⟨⟨(x.val + 15 - c.val) % 16, ?_⟩, Finset.mem_univ _, Fin.ext ?_⟩))
    · have hx : x.val < 16 := x.isLt; have hc : c.val < 16 := c.isLt; have : x.val ≠ c.val := fun h' => h (Fin.ext h'); omega
    · have hx : x.val < 16 := x.isLt; have hc : c.val < 16 := c.isLt
      simp only [Function.Embedding.coeFn_mk, peer]; omega

theorem not_mem_peers (c : Dev nD) : c ∉ Finset.univ.map ⟨peer c, peer_inj c⟩ := fun h => by
  obtain ⟨e, -, he⟩ := Finset.mem_map.mp h
  exact peer_ne c e he

/-! ## The kernel's device and offset chains, in closed form -/

/-- The device the `e`-th signal names. -/
theorem devSig_eq : ∀ d : Dev nD, (k0_dev1 d = (peer d 0).val ∧ k0_dev2 d = (peer d 1).val ∧ k0_dev3 d = (peer d 2).val ∧ k0_dev4 d = (peer d 3).val
    ∧ k0_dev5 d = (peer d 4).val ∧ k0_dev6 d = (peer d 5).val ∧ k0_dev7 d = (peer d 6).val ∧ k0_dev8 d = (peer d 7).val ∧ k0_dev9 d = (peer d 8).val
    ∧ k0_dev10 d = (peer d 9).val ∧ k0_dev11 d = (peer d 10).val ∧ k0_dev12 d = (peer d 11).val ∧ k0_dev13 d = (peer d 12).val ∧ k0_dev14 d = (peer d 13).val
    ∧ k0_dev15 d = (peer d 14).val) := by decide +kernel
/-- The device the `e`-th copy of the first exchange goes to. -/
theorem devRs_eq : ∀ d : Dev nD, (k0_dev16 d = (peer d 0).val ∧ k0_dev17 d = (peer d 1).val ∧ k0_dev18 d = (peer d 2).val ∧ k0_dev19 d = (peer d 3).val
    ∧ k0_dev20 d = (peer d 4).val ∧ k0_dev21 d = (peer d 5).val ∧ k0_dev22 d = (peer d 6).val ∧ k0_dev23 d = (peer d 7).val ∧ k0_dev24 d = (peer d 8).val
    ∧ k0_dev25 d = (peer d 9).val ∧ k0_dev26 d = (peer d 10).val ∧ k0_dev27 d = (peer d 11).val ∧ k0_dev28 d = (peer d 12).val ∧ k0_dev29 d = (peer d 13).val
    ∧ k0_dev30 d = (peer d 14).val) := by decide +kernel
/-- The device the `e`-th copy of the second exchange goes to. -/
theorem devAg_eq : ∀ d : Dev nD, (k0_dev31 d = (peer d 0).val ∧ k0_dev32 d = (peer d 1).val ∧ k0_dev33 d = (peer d 2).val ∧ k0_dev34 d = (peer d 3).val
    ∧ k0_dev35 d = (peer d 4).val ∧ k0_dev36 d = (peer d 5).val ∧ k0_dev37 d = (peer d 6).val ∧ k0_dev38 d = (peer d 7).val ∧ k0_dev39 d = (peer d 8).val
    ∧ k0_dev40 d = (peer d 9).val ∧ k0_dev41 d = (peer d 10).val ∧ k0_dev42 d = (peer d 11).val ∧ k0_dev43 d = (peer d 12).val ∧ k0_dev44 d = (peer d 13).val
    ∧ k0_dev45 d = (peer d 14).val) := by decide +kernel

/-- Row offset of device `p`'s rows. -/
abbrev rowOff (p : Dev nD) : Fin 2 → Nat := ![48 * p.val, 0]
/-- Offset of slot `e` of the landing buffer. -/
abbrev slotOff (e : Fin 15) : Fin 3 → Nat := ![e.val, 0, 0]

theorem off1_eq : ∀ (d : Dev nD) (r : Fin 15), k0_off1 d (BitVec.ofNat 32 (1 + r.val)) = rowOff (peer d r) := by decide +kernel
theorem off2_eq (d : Dev nD) : k0_off2 d = rowOff d := k0_off2_eq d
theorem off3_eq (d : Dev nD) : k0_off3 d = rowOff d := k0_off3_eq d

/-! ## Semaphores -/

/-- Semaphore `e` of family `k`: 0 the first exchange's send side, 1 its receive side, 2 the second exchange's send
    side, 3 its receive side. -/
def dsem (k : Fin 4) (e : Fin 15) : DmaSem sig := ⟨4 + (15 * k.val + e.val), by have := k.isLt; have := e.isLt; show _ < 64; omega⟩

/-- The barrier semaphore. -/
abbrev barS : Sem sig := (SemArray.scalar (sig.barrier 0 rfl) : Sems sig S_).sem

theorem dsem_inj {k k' : Fin 4} {e e' : Fin 15} (h : dsem k e = dsem k' e') : k = k' ∧ e = e' := by
  have := k.isLt; have := e.isLt; have := k'.isLt; have := e'.isLt
  have := congrArg Fin.val h; simp only [dsem] at this
  exact ⟨Fin.ext (by omega), Fin.ext (by omega)⟩

/-! ## Buffers, rows and slots -/

/-- The device's own product (all 768 rows), -/
abbrev pM : Memref sig .tc .vmem S768x768 .bf16 := Memref.whole cc0_scratch0
/-- the sum of the sixteen products on the device's own rows, -/
abbrev aM : Memref sig .tc .vmem S48x768 .bf16 := Memref.whole cc0_scratch1
/-- the landing buffer of the first exchange, -/
abbrev rM : Memref sig .tc .vmem S15x48x768 .bf16 := Memref.whole cc0_scratch2
/-- and the result's staging buffer. -/
abbrev oM : Memref sig .tc .vmem S768x768 .bf16 := Memref.whole cc0_stg3_0

theorem row_inb (p : Dev nD) : ∀ a, rowOff p a + S48x768.size a ≤ S768x768.size a := by revert p; decide
theorem slot_inb (e : Fin 15) : ∀ a, slotOff e a + S1x48x768.size a ≤ S15x48x768.size a := by revert e; decide

abbrev rowR (p : Dev nD) : Rect S768x768 := Rect.unit (rowOff p) S48x768.size (row_inb p)
abbrev slotR (e : Fin 15) : Rect S15x48x768 := Rect.unit (slotOff e) S1x48x768.size (slot_inb e)

/-- Device `p`'s rows, as a set of indices of a 768-row array. -/
def rowsS (p : Dev nD) : Finset S768x768.Idx := (rowR p).set
/-- Slot `e`, as a set of indices of the landing buffer. -/
def slotS (e : Fin 15) : Finset S15x48x768.Idx := (slotR e).set

theorem mem_rowsS (p : Dev nD) (i : S768x768.Idx) : i ∈ rowsS p ↔ 48 * p.val ≤ (i 0).val ∧ (i 0).val < 48 * p.val + 48 := by
  unfold rowsS
  rw [Rect.mem_set_unit]
  exact ⟨fun h => h 0, fun h a => by
    match a with
    | ⟨0, _⟩ => exact h
    | ⟨1, _⟩ => exact ⟨Nat.zero_le _, by show _ < 0 + 768; rw [Nat.zero_add]; exact (i 1).isLt⟩⟩
theorem mem_slotS (e : Fin 15) (i : S15x48x768.Idx) : i ∈ slotS e ↔ (i 0).val = e.val := by
  unfold slotS
  rw [Rect.mem_set_unit]
  exact ⟨fun h => by have := h 0; exact Nat.le_antisymm (Nat.lt_succ_iff.mp this.2) this.1, fun h a => by
    match a with
    | ⟨0, _⟩ => exact ⟨Nat.le_of_eq h.symm, by show (i 0).val < e.val + 1; omega⟩
    | ⟨1, _⟩ => exact ⟨Nat.zero_le _, by show _ < 0 + 48; rw [Nat.zero_add]; exact (i 1).isLt⟩
    | ⟨2, _⟩ => exact ⟨Nat.zero_le _, by show _ < 0 + 768; rw [Nat.zero_add]; exact (i 2).isLt⟩⟩

theorem rows_disjoint (p p' : Dev nD) (h : p ≠ p') : Disjoint (rowsS p) (rowsS p') :=
  Finset.disjoint_left.mpr fun i hi hi' => h (Fin.ext (by
    have h1 := (mem_rowsS p i).mp hi; have h2 := (mem_rowsS p' i).mp hi'; omega))
theorem slots_disjoint (e e' : Fin 15) (h : e ≠ e') : Disjoint (slotS e) (slotS e') :=
  Finset.disjoint_left.mpr fun i hi hi' => h (Fin.ext (by
    have h1 := (mem_slotS e i).mp hi; have h2 := (mem_slotS e' i).mp hi'; omega))

/-- The device whose rows contain row `r`, and the row's number among them. -/
def rowDev (r : Fin 768) : Dev nD := ⟨r.val / 48, by show _ < 16; omega⟩
def rowIn (r : Fin 768) : Fin 48 := ⟨r.val % 48, Nat.mod_lt _ (by decide)⟩
/-- Row `a` of device `p`'s rows. -/
def rowOf (p : Dev nD) (a : Fin 48) : Fin 768 := ⟨48 * p.val + a.val, by have hp : p.val < 16 := p.isLt; omega⟩

theorem rowDev_rowOf (p : Dev nD) (a : Fin 48) : rowDev (rowOf p a) = p := Fin.ext (by simp only [rowDev, rowOf]; omega)
theorem rowIn_rowOf (p : Dev nD) (a : Fin 48) : rowIn (rowOf p a) = a := Fin.ext (by simp only [rowIn, rowOf]; omega)
theorem rowOf_rowDev (r : Fin 768) : rowOf (rowDev r) (rowIn r) = r := Fin.ext (by simp only [rowDev, rowIn, rowOf]; omega)

theorem rows_union : (Finset.univ : Finset (Dev nD)).biUnion rowsS = Finset.univ :=
  Finset.eq_univ_iff_forall.mpr fun i => Finset.mem_biUnion.mpr ⟨rowDev (i 0), Finset.mem_univ _, (mem_rowsS _ _).mpr (by
    simp only [rowDev]; omega)⟩
theorem slots_union : (Finset.univ : Finset (Fin 15)).biUnion slotS = Finset.univ :=
  Finset.eq_univ_iff_forall.mpr fun i => Finset.mem_biUnion.mpr ⟨i 0, Finset.mem_univ _, (mem_slotS _ _).mpr rfl⟩

/-- Device `p`'s rows of the product, of the result; slot `e` of the landing buffer seen as 48 rows. -/
abbrev pRow (p : Dev nD) : Memref sig .tc .vmem S48x768 .bf16 := pM.slice (rowR p) (fun _ => rfl)
abbrev oRow (p : Dev nD) : Memref sig .tc .vmem S48x768 .bf16 := oM.slice (rowR p) (fun _ => rfl)
abbrev slotM (e : Fin 15) : Memref sig .tc .vmem S48x768 .bf16 := (rM.slice (slotR e) (fun _ => rfl)).squeeze S48x768 squeezes_S1x48x768_S48x768

theorem pRow_set (p : Dev nD) : (pRow p).view.set = rowsS p := View.set_slice_whole _ _
theorem oRow_set (p : Dev nD) : (oRow p).view.set = rowsS p := View.set_slice_whole _ _
theorem slotM_set (e : Fin 15) : (slotM e).view.set = slotS e := (View.set_reshape _ _).trans (View.set_slice_whole _ _)

theorem pRow_emb (p : Dev nD) (j : S48x768.Idx) : (pRow p).view.emb j = (ValueIdx.ix2 (rowOf p (j 0)) (j 1) : S768x768.Idx) := by
  funext a
  match a with
  | ⟨0, _⟩ => exact Fin.ext (ValueKit.view_emb_slice_whole_unit_val cc0_scratch0 (rowOff p) S48x768.size (row_inb p) j 0)
  | ⟨1, _⟩ => exact Fin.ext ((ValueKit.view_emb_slice_whole_unit_val cc0_scratch0 (rowOff p) S48x768.size (row_inb p) j 1).trans (Nat.zero_add _))
theorem oRow_emb (p : Dev nD) (j : S48x768.Idx) : (oRow p).view.emb j = (ValueIdx.ix2 (rowOf p (j 0)) (j 1) : S768x768.Idx) := by
  funext a
  match a with
  | ⟨0, _⟩ => exact Fin.ext (ValueKit.view_emb_slice_whole_unit_val cc0_stg3_0 (rowOff p) S48x768.size (row_inb p) j 0)
  | ⟨1, _⟩ => exact Fin.ext ((ValueKit.view_emb_slice_whole_unit_val cc0_stg3_0 (rowOff p) S48x768.size (row_inb p) j 1).trans (Nat.zero_add _))
theorem slotM_emb (e : Fin 15) (j : S48x768.Idx) : (slotM e).view.emb j = (ValueIdx.ix3 e (j 0) (j 1) : S15x48x768.Idx) := by
  have hr : Shape.reshapeEquiv (squeezes_S1x48x768_S48x768).numel_eq j = (ValueIdx.ix3 (0 : Fin 1) (j 0) (j 1) : S1x48x768.Idx) := by
    refine (Shape.reshapeEquiv_cons_one _ j).trans ?_
    funext a; match a with | ⟨0, _⟩ => rfl | ⟨1, _⟩ => rfl | ⟨2, _⟩ => rfl
  have h0 : (slotM e).view.emb j = ((View.whole cc0_scratch2).slice (slotR e)).emb (ValueIdx.ix3 (0 : Fin 1) (j 0) (j 1) : S1x48x768.Idx) := by
    rw [← hr]; rfl
  rw [h0]
  funext a
  match a with
  | ⟨0, _⟩ => exact Fin.ext ((ValueKit.view_emb_slice_whole_unit_val cc0_scratch2 (slotOff e) S1x48x768.size (slot_inb e) _ 0).trans (Nat.add_zero _))
  | ⟨1, _⟩ => exact Fin.ext ((ValueKit.view_emb_slice_whole_unit_val cc0_scratch2 (slotOff e) S1x48x768.size (slot_inb e) _ 1).trans (Nat.zero_add _))
  | ⟨2, _⟩ => exact Fin.ext ((ValueKit.view_emb_slice_whole_unit_val cc0_scratch2 (slotOff e) S1x48x768.size (slot_inb e) _ 2).trans (Nat.zero_add _))

/-- Every index of a row block, of a slot, is some row-and-column of it. -/
theorem rowsS_cases {p : Dev nD} {i : S768x768.Idx} (h : i ∈ rowsS p) : i = ValueIdx.ix2 (rowOf p (rowIn (i 0))) (i 1) := by
  have h1 := (mem_rowsS p i).mp h
  rw [ValueIdx.eq_ix2 i]
  refine congrArg (fun r => (ValueIdx.ix2 r (i 1) : S768x768.Idx)) (Fin.ext ?_)
  show (i 0).val = 48 * p.val + (i 0).val % 48
  omega
theorem slotS_cases {e : Fin 15} {i : S15x48x768.Idx} (h : i ∈ slotS e) : i = ValueIdx.ix3 e (i 1) (i 2) := by
  have h1 := (mem_slotS e i).mp h
  rw [ValueIdx.eq_ix3 i]
  exact congrArg (fun r => (ValueIdx.ix3 r (i 1) (i 2) : S15x48x768.Idx)) (Fin.ext h1)

/-- The credit a copy of 48 rows signals. -/
abbrev N : ℕ := (aM : Memref sig .tc .vmem S48x768 .bf16).view.dmaCredit
theorem N_pos : 0 < N := View.dmaCredit_pos _ (by decide)
theorem N_slot (e : Fin 15) : (slotM e).view.dmaCredit = N := rfl
theorem N_oRow (p : Dev nD) : (oRow p).view.dmaCredit = N := rfl

end Cert.FfnProof

end
-- ==== Proof.Sched.lean ====
/-
What every buffer holds at each moment of the run, and the exchange's schedule: which signal or copy pays which
semaphore, what it hands over, and what each device owes when it starts.
-/
module

public import proofs.«01_k».proof.Proof.Geometry
public import Idealize.ShloMosaic.Lib.Transfers

@[expose] public section

set_option maxRecDepth 16384

noncomputable section

namespace Cert.FfnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the exchange's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- What device `c`'s three operands' staging buffers hold: its whole `x`, its columns of `W1`, its rows of `W2`. -/
def xStg (c : Dev nD) : (cc0_stg0_0 : Ref sig .tc).ty.Contents (Elt F) :=
  (win0_0.blk (0 : Fin 1)).view.read (Elt F) (m ((c : Thread nD τ).loc main_arg0))
def w1Stg (c : Dev nD) : (cc0_stg1_0 : Ref sig .tc).ty.Contents (Elt F) :=
  (win0_1.blk (0 : Fin 1)).view.read (Elt F) (m ((c : Thread nD τ).loc main_arg1))
def w2Stg (c : Dev nD) : (cc0_stg2_0 : Ref sig .tc).ty.Contents (Elt F) :=
  (win0_2.blk (0 : Fin 1)).view.read (Elt F) (m ((c : Thread nD τ).loc main_arg2))

/-- Device `c`'s own product, all 768 rows. -/
def partialOf (c : Dev nD) : (cc0_scratch0 : Ref sig .tc).ty.Contents (Elt F) := k0_pay1 (xStg m c) (w1Stg m c) (w2Stg m c)

/-- Device `c`'s landing buffer once every copy of the first exchange is in: slot `e` holds `c`'s rows of the product of
    the device `e + 1` places before it. -/
def landFull (c : Dev nD) : (cc0_scratch2 : Ref sig .tc).ty.Contents (Elt F) :=
  fun (i : S15x48x768.Idx) => partialOf m (src c (i 0)) (ValueIdx.ix2 (rowOf c (i 1)) (i 2) : S768x768.Idx)

/-- Device `c`'s own rows of its product, as the kernel loads them, -/
def ownRows (c : Dev nD) : Vec F S48x768 .bf16 := (pM : Memref sig .tc .vmem S768x768 .bf16).view.readAt (Elt F) (rowR c).toLoadRect (partialOf m c)
/-- slot `e` of its landing buffer, as the kernel loads it, -/
def slotVal (c : Dev nD) (e : Fin 15) : Vec F S1x48x768 .bf16 := (rM : Memref sig .tc .vmem S15x48x768 .bf16).view.readAt (Elt F) (slotR e).toLoadRect (landFull m c)
/-- and the sum of the sixteen, in the kernel's order. -/
def accOf (c : Dev nD) : (cc0_scratch1 : Ref sig .tc).ty.Contents (Elt F) :=
  k0_pay8 (k0_pay7 (k0_pay6 (k0_pay5 (k0_pay4 (k0_pay3 (k0_pay2 (ownRows m c) (slotVal m c 0) (slotVal m c 1)) (slotVal m c 2) (slotVal m c 3))
    (slotVal m c 4) (slotVal m c 5) (slotVal m c 6)) (slotVal m c 7) (slotVal m c 8)) (slotVal m c 9) (slotVal m c 10) (slotVal m c 11))
    (slotVal m c 12) (slotVal m c 13) (slotVal m c 14))

/-- The result, the same on every device: device `p`'s rows are `p`'s sum. -/
def outFull : (cc0_stg3_0 : Ref sig .tc).ty.Contents (Elt F) :=
  fun (i : S768x768.Idx) => accOf m (rowDev (i 0)) (ValueIdx.ix2 (rowIn (i 0)) (i 1) : S48x768.Idx)

/-- A copy of rows `c` of the sender's product into slot `e` of `c` leaves there what `landFull` says. -/
theorem land_write (c : Dev nD) (e : Fin 15) (fd : (cc0_scratch2 : Ref sig .tc).ty.Contents (Elt F)) {i : S15x48x768.Idx} (hi : i ∈ slotS e) :
    (slotM e).view.write (Elt F) fd ((pRow c).view.read (Elt F) (partialOf m (src c e))) Finset.univ i = landFull m c i := by
  obtain ⟨j, rfl⟩ : ∃ j, (slotM e).view.emb j = i := ⟨(ValueIdx.ix2 (i 1) (i 2) : S48x768.Idx), (slotM_emb e _).trans (slotS_cases hi).symm⟩
  rw [View.write_emb_of_mem _ _ (Finset.mem_univ _), View.read_apply]
  exact (congrArg (partialOf m (src c e)) (pRow_emb c j)).trans (congrArg (landFull m c) (slotM_emb e j)).symm

/-- The result at row `a` of device `p`'s rows. -/
theorem outFull_at (p : Dev nD) (a : Fin 48) (b : Fin 768) :
    outFull m (ValueIdx.ix2 (rowOf p a) b : S768x768.Idx) = accOf m p (ValueIdx.ix2 a b : S48x768.Idx) := by
  show accOf m (rowDev (rowOf p a)) (ValueIdx.ix2 (rowIn (rowOf p a)) b : S48x768.Idx) = _
  rw [rowDev_rowOf, rowIn_rowOf]

/-- A copy of device `p`'s sum into rows `p` of the result leaves there what `outFull` says; -/
theorem out_write (p : Dev nD) (fd : (cc0_stg3_0 : Ref sig .tc).ty.Contents (Elt F)) {i : S768x768.Idx} (hi : i ∈ rowsS p) :
    (oRow p).view.write (Elt F) fd ((aM : Memref sig .tc .vmem S48x768 .bf16).view.read (Elt F) (accOf m p)) Finset.univ i = outFull m i := by
  obtain ⟨j, rfl⟩ : ∃ j, (oRow p).view.emb j = i := ⟨(ValueIdx.ix2 (rowIn (i 0)) (i 1) : S48x768.Idx), (oRow_emb p _).trans (rowsS_cases hi).symm⟩
  rw [View.write_emb_of_mem _ _ (Finset.mem_univ _)]
  refine Eq.trans ?_ (congrArg (outFull m) (oRow_emb p j)).symm
  exact (congrArg (accOf m p) (ValueIdx.eq_ix2 j)).trans (outFull_at m p (j 0) (j 1)).symm
/-- and so does the kernel's own store of it. -/
theorem out_store (p : Dev nD) (fd : (cc0_stg3_0 : Ref sig .tc).ty.Contents (Elt F)) (w : Vec F S48x768 .bf16) (hw : w = accOf m p) {i : S768x768.Idx} (hi : i ∈ rowsS p) :
    ((oM : Memref sig .tc .vmem S768x768 .bf16).access (rowR p) : View sig .tc _ _ _).write (Elt F) fd w Finset.univ i = outFull m i := by
  rw [hw]; exact out_write m p fd hi

/-! ## Points-tos -/

/-- Device `p`'s rows of device `c`'s product buffer, of `c`'s result buffer; slot `e` of `c`'s landing buffer. -/
def pPts (c p : Dev nD) (f : Buf (Elt F) ((c : Thread nD τ).loc cc0_scratch0)) : sProp 𝕄 := ((c : Thread nD τ).loc cc0_scratch0) ↦[rowsS p]{fullShare} f
def oPts (c p : Dev nD) (f : Buf (Elt F) ((c : Thread nD τ).loc cc0_stg3_0)) : sProp 𝕄 := ((c : Thread nD τ).loc cc0_stg3_0) ↦[rowsS p]{fullShare} f
def slotPts (c : Dev nD) (e : Fin 15) (f : Buf (Elt F) ((c : Thread nD τ).loc cc0_scratch2)) : sProp 𝕄 := ((c : Thread nD τ).loc cc0_scratch2) ↦[slotS e]{fullShare} f
/-- Device `c`'s sum, at a share. -/
def aPts (c : Dev nD) (q : PosShare TreeShare) : sProp 𝕄 := ((c : Thread nD τ).loc cc0_scratch1) ↦{q} accOf m c

omit [FloatOps F] in
instance pPts_storable (c p : Dev nD) (f) : BI.Storable (upEmb : UEmb _ 𝕄) (pPts (F := F) c p f) := by unfold pPts; infer_instance
omit [FloatOps F] in
instance oPts_storable (c p : Dev nD) (f) : BI.Storable (upEmb : UEmb _ 𝕄) (oPts (F := F) c p f) := by unfold oPts; infer_instance
omit [FloatOps F] in
instance slotPts_storable (c : Dev nD) (e : Fin 15) (f) : BI.Storable (upEmb : UEmb _ 𝕄) (slotPts (F := F) c e f) := by unfold slotPts; infer_instance
instance aPts_storable (c : Dev nD) (q) : BI.Storable (upEmb : UEmb _ 𝕄) (aPts m c q) := by unfold aPts; infer_instance

/-! ## The schedule -/

abbrev barCell (c : Dev nD) : GSem nD τ sig := ((c : Thread nD τ), .reg barS)
abbrev dCell (k : Fin 4) (c : Dev nD) (e : Fin 15) : GSem nD τ sig := ((c : Thread nD τ), .dma (dsem k e))

/-- What duty `d` of `c`'s barrier hands `c`: from the device `x` it is paid by, the slot of `x`'s landing buffer that
    `c` copies into and `c`'s rows of `x`'s result buffer. -/
def barPay (c : Dev nD) (d : Fin 15) : sProp 𝕄 := iprop((∃ f, slotPts (peer c d.rev) d.rev f) ∗ ∃ f, oPts (peer c d.rev) c f)

/-- What a copy hands over: on the send side the source back, on the receive side the destination, filled. -/
def dPay (k : Fin 4) (c : Dev nD) (e : Fin 15) : sProp 𝕄 := match k with
  | 0 => pPts c (peer c e) (partialOf m c)
  | 1 => slotPts c e (landFull m c)
  | 2 => aPts m c (Transfers.shareTok fullShare 15 e)
  | 3 => oPts c (src c e) (outFull m)

omit [FloatOps F] in
instance barPay_storable (c : Dev nD) (d : Fin 15) : BI.Storable (upEmb : UEmb _ 𝕄) (barPay (F := F) c d) := by unfold barPay; infer_instance
instance dPay_storable (k : Fin 4) (c : Dev nD) (e : Fin 15) : BI.Storable (upEmb : UEmb _ 𝕄) (dPay m k c e) := by
  unfold dPay; fin_cases k <;> dsimp only <;> infer_instance

/-- The family and the step of a DMA semaphore. -/
def famOf (q : DmaSem sig) : Fin 4 := ⟨(q.val - 4) / 15 % 4, Nat.mod_lt _ (by decide)⟩
def stepOf (q : DmaSem sig) : Fin 15 := ⟨(q.val - 4) % 15, Nat.mod_lt _ (by decide)⟩
theorem famOf_dsem (k : Fin 4) (e : Fin 15) : famOf (dsem k e) = k := Fin.ext (by have := k.isLt; have := e.isLt; simp only [famOf, dsem]; omega)
theorem stepOf_dsem (k : Fin 4) (e : Fin 15) : stepOf (dsem k e) = e := Fin.ext (by have := k.isLt; have := e.isLt; simp only [stepOf, dsem]; omega)

/-- One round: a barrier cell has fifteen duties of one unit each, a copy's cell one duty of the copy's credit. -/
def rd : Rounds.Schedule (GSem nD τ sig) (Fin 15) 𝕄 where
  duties g r := if r = 0 ∧ g.1.2 = .tc then (match g.2 with | .reg _ => Finset.univ | .dma q => if 4 ≤ q.val then {0} else ∅) else ∅
  unitless _ := False
  amount g _ _ := match g.2 with | .reg _ => 1 | .dma _ => N
  payload g _ d := match g.2 with | .reg _ => barPay g.1.1 d | .dma q => dPay m (famOf q) g.1.1 (stepOf q)
  amount_pos g _ _ _ := by
    rcases g with ⟨t, s | q⟩
    · exact Nat.one_pos
    · exact N_pos

instance rd_payload_storable (g : GSem nD τ sig) (r : ℕ) (d : Fin 15) : BI.Storable (upEmb : UEmb _ 𝕄) ((rd m).payload g r d) := by
  rcases g with ⟨t, s | q⟩
  · exact barPay_storable _ _
  · exact dPay_storable m _ _ _

theorem duties_bar (c : Dev nD) : (rd m).duties (barCell c) 0 = Finset.univ := by
  dsimp only [rd]; exact if_pos ⟨rfl, rfl⟩
theorem duties_dma (k : Fin 4) (c : Dev nD) (e : Fin 15) : (rd m).duties (dCell k c e) 0 = {0} := by
  dsimp only [rd]; exact (if_pos ⟨rfl, rfl⟩).trans (if_pos (by simp only [dsem]; omega))
theorem duties_later (g : GSem nD τ sig) : ∀ r, 1 ≤ r → (rd m).duties g r = ∅ := fun r hr => by
  dsimp only [rd]; exact if_neg fun h => by omega
theorem amount_bar (c : Dev nD) (d : Fin 15) : (rd m).amount (barCell c) 0 d = 1 := rfl
theorem amount_dma (k : Fin 4) (c : Dev nD) (e d : Fin 15) : (rd m).amount (dCell k c e) 0 d = N := rfl
theorem expect_bar (c : Dev nD) : (rd m).expect (barCell c) 0 = 15 := by
  unfold Schedule.expect Schedule.amountOf
  rw [duties_bar, Finset.sum_congr rfl fun d _ => amount_bar m c d]; rfl
theorem expect_dma (k : Fin 4) (c : Dev nD) (e : Fin 15) : (rd m).expect (dCell k c e) 0 = N := by
  unfold Schedule.expect Schedule.amountOf; rw [duties_dma, Finset.sum_singleton, amount_dma]
theorem payload_bar (c : Dev nD) (d : Fin 15) : (rd m).payload (barCell c) 0 d = barPay c d := rfl
theorem payload_dma (k : Fin 4) (c : Dev nD) (e d : Fin 15) : (rd m).payload (dCell k c e) 0 d = dPay m k c e := by
  show dPay m (famOf (dsem k e)) c (stepOf (dsem k e)) = _
  rw [famOf_dsem, stepOf_dsem]
/-- The rest of a cell's round, none of it taken. -/
theorem rest_bar (c : Dev nD) : bigSep ((rd m).duties (barCell c) 0 \ ∅) (fun d => (rd m).payload (barCell c) 0 d) = bigSep Finset.univ (barPay (F := F) c) := by
  rw [Finset.sdiff_empty, duties_bar]; rfl
theorem rest_dma (k : Fin 4) (c : Dev nD) (e : Fin 15) :
    bigSep ((rd m).duties (dCell k c e) 0 \ ∅) (fun d => (rd m).payload (dCell k c e) 0 d) = dPay m k c e := by
  rw [Finset.sdiff_empty, duties_dma, bigSep_singleton, payload_dma]

/-! ## What each device owes at launch; the levels -/

/-- The steps from `k` on. -/
def stepsFrom (k : ℕ) : Finset (Fin 15) := Finset.univ.filter fun e => k ≤ e.val
theorem stepsFrom_zero : stepsFrom 0 = Finset.univ := Finset.filter_true_of_mem fun _ _ => Nat.zero_le _
theorem stepsFrom_last : stepsFrom 15 = ∅ := Finset.filter_false_of_mem fun e _ => by omega
theorem stepsFrom_step (e : Fin 15) : stepsFrom e.val = insert e (stepsFrom (e.val + 1)) := by
  ext x; simp only [stepsFrom, Finset.mem_filter, Finset.mem_univ, true_and, Finset.mem_insert, Fin.ext_iff]; omega
theorem not_mem_stepsFrom (e : Fin 15) : e ∉ stepsFrom (e.val + 1) := by
  simp only [stepsFrom, Finset.mem_filter, Finset.mem_univ, true_and]; omega

/-- What is still owed to the peers' barriers, to their first-exchange receive cells, to their second-exchange receive
    cells, from step `k` on. -/
def owB (c : Dev nD) (k : ℕ) : CellTallies nD τ sig Unit := ∑ e ∈ stepsFrom k, tallyAt (barCell (peer c e)) () 1
def owC (j : Fin 4) (c : Dev nD) (k : ℕ) : CellTallies nD τ sig Unit := ∑ e ∈ stepsFrom k, tallyAt (dCell j (peer c e) e) () N

theorem owB_step (c : Dev nD) (e : Fin 15) : owB c e.val = owB c (e.val + 1) + tallyAt (barCell (peer c e)) () 1 := by
  unfold owB; rw [stepsFrom_step, Finset.sum_insert (not_mem_stepsFrom e), add_comm]
theorem owC_step (j : Fin 4) (c : Dev nD) (e : Fin 15) : owC j c e.val = owC j c (e.val + 1) + tallyAt (dCell j (peer c e) e) () N := by
  unfold owC; rw [stepsFrom_step, Finset.sum_insert (not_mem_stepsFrom e), add_comm]
theorem owB_last (c : Dev nD) : owB c 15 = 0 := by unfold owB; rw [stepsFrom_last]; rfl
theorem owC_last (j : Fin 4) (c : Dev nD) : owC j c 15 = 0 := by unfold owC; rw [stepsFrom_last]; rfl

/-- Everything device `c` owes at launch. -/
def O₀ (c : Dev nD) : CellTallies nD τ sig Unit := owC 3 c 0 + owC 1 c 0 + owB c 0

theorem tallyAt_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h
theorem sum_tallyAt_pos {S : Finset (Fin 15)} {cell : Fin 15 → GSem nD τ sig} {n : ℕ} {g : GSem nD τ sig} {u : Unit}
    (h : 0 < (∑ e ∈ S, tallyAt (cell e) () n : CellTallies nD τ sig Unit) g u) : ∃ e, g = cell e := by
  rw [Finset.sum_apply, Finsupp.finset_sum_apply] at h
  obtain ⟨e, -, he⟩ := Finset.exists_ne_zero_of_sum_ne_zero (Nat.pos_iff_ne_zero.mp h)
  exact ⟨e, tallyAt_pos (Nat.pos_iff_ne_zero.mpr he)⟩

def L (g : GSem nD τ sig) : Finset Unit := if g.1.2 = .tc then {()} else ∅
theorem L_of_ne (g : GSem nD τ sig) (h : g.1.2 ≠ .tc) : L g = ∅ := if_neg h
/-- Barriers at 1, first-exchange receive cells at 2, second-exchange receive cells at 3, everything else at 0. -/
def lvS (s : SemLoc sig) : ℕ := match s with
  | .reg _ => 1
  | .dma q => if 49 ≤ q.val then 3 else if 19 ≤ q.val ∧ q.val < 34 then 2 else 0
def lv (g : GSem nD τ sig) (_ : Unit) : ℕ := lvS g.2

theorem lvS_recv (e : Fin 15) : lvS (.dma (dsem 1 e)) = 2 := by revert e; decide
theorem lvS_recv' (e : Fin 15) : lvS (.dma (dsem 3 e)) = 3 := by revert e; decide

/-- A device may wait at a semaphore whose level lies below the level of everything it owes. -/
theorem mayWait_of (c : Dev nD) (sm : SemLoc sig) (b : ℕ) (O : CellTallies nD τ sig Unit) (hs : lvS sm ≤ b)
    (hO : ∀ (g : GSem nD τ sig) (u : Unit), 0 < O g u → g.1.2 = .tc ∧ b < lvS g.2) :
    (levAts L lv : sProp 𝕄) ⊢ MayWait (c : Thread nD τ) sm () O :=
  MayOwe.of_cut (L := L) (lev := lv) b (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hs) (fun g u hg => (hO g u hg).2)

theorem owC_pos {j : Fin 4} {c : Dev nD} {k : ℕ} {g : GSem nD τ sig} {u : Unit} (h : 0 < owC j c k g u) : ∃ e, g = dCell j (peer c e) e := sum_tallyAt_pos h
theorem owB_pos {c : Dev nD} {k : ℕ} {g : GSem nD τ sig} {u : Unit} (h : 0 < owB c k g u) : ∃ e, g = barCell (peer c e) := sum_tallyAt_pos h
theorem add_pos_cases {A B : CellTallies nD τ sig Unit} {g : GSem nD τ sig} {u : Unit} (h : 0 < (A + B) g u) : 0 < A g u ∨ 0 < B g u := by
  rw [Pi.add_apply, Finsupp.add_apply] at h; omega

/-- At its barrier a device owes copies only, -/
theorem mayWait_bar (c : Dev nD) : (levAts L lv : sProp 𝕄) ⊢ MayWait (c : Thread nD τ) (.reg barS) () (owC 3 c 0 + owC 1 c 0) :=
  mayWait_of c _ 1 _ (Nat.le_refl 1) fun g u hg => by
    rcases add_pos_cases hg with h | h
    · obtain ⟨e, rfl⟩ := owC_pos h; exact ⟨rfl, by rw [lvS_recv']; decide⟩
    · obtain ⟨e, rfl⟩ := owC_pos h; exact ⟨rfl, by rw [lvS_recv]; decide⟩
/-- at a first-exchange receive cell copies of the second exchange only, -/
theorem mayWait_recv (c : Dev nD) (e : Fin 15) : (levAts L lv : sProp 𝕄) ⊢ MayWait (c : Thread nD τ) (.dma (dsem 1 e)) () (owC 3 c 0) :=
  mayWait_of c _ 2 _ (by rw [lvS_recv]) fun g u hg => by
    obtain ⟨e, rfl⟩ := owC_pos hg; exact ⟨rfl, by rw [lvS_recv']; decide⟩
/-- and the staging cells lie below everything. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine mayWait_of c _ 0 _ (Nat.le_of_eq hq) fun g u hg => ?_
    unfold O₀ at hg
    rcases add_pos_cases hg with h | h
    · rcases add_pos_cases h with h | h
      · obtain ⟨e, rfl⟩ := owC_pos h; exact ⟨rfl, by rw [lvS_recv']; decide⟩
      · obtain ⟨e, rfl⟩ := owC_pos h; exact ⟨rfl, by rw [lvS_recv]; decide⟩
    · obtain ⟨e, rfl⟩ := owB_pos h; exact ⟨rfl, Nat.one_pos⟩
  · rw [MayWait_zero]; iintro -; iempintro

end Cert.FfnProof

end
-- ==== Proof.Steps.lean ====
/-
The kernel's operations, one lemma for each kind: a barrier signal, the barrier wait, a copy of the first exchange,
the wait for a copy's end (either side, either exchange), the load of a landed slot, a copy of the second exchange.
Each takes the state of its loop before step `e` to the state after it.
-/
module

public import proofs.«01_k».proof.Proof.Sched

@[expose] public section

set_option maxRecDepth 16384

noncomputable section

namespace Cert.FfnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A loop's state: what its steps up to `k` have done, what those from `k` on still need -/

/-- `D e` for the steps before `k`, `T e` for the others. -/
def mix (k : ℕ) (T D : Fin 15 → sProp 𝕄) : sProp 𝕄 := bigSep Finset.univ fun e : Fin 15 => if e.val < k then D e else T e

omit [FloatOps F] in
theorem mix_zero (T D : Fin 15 → sProp 𝕄) : mix 0 T D = bigSep Finset.univ T :=
  bigSep_congr fun e _ => if_neg (Nat.not_lt_zero _)
omit [FloatOps F] in
theorem mix_last (T D : Fin 15 → sProp 𝕄) : mix 15 T D = bigSep Finset.univ D :=
  bigSep_congr fun e _ => if_pos e.isLt
omit [FloatOps F] in
/-- Step `e` takes what it needs and puts back what it has done. -/
theorem mix_take (T D : Fin 15 → sProp 𝕄) (e : Fin 15) {k k' : ℕ} (hk : e.val = k) (hk' : k + 1 = k') :
    mix k T D ⊢ iprop(T e ∗ (D e -∗ mix k' T D)) := by
  subst hk hk'
  unfold mix
  rw [bigSep_univ_at _ e, bigSep_univ_at (fun x : Fin 15 => if x.val < e.val + 1 then D x else T x) e, if_neg (Nat.lt_irrefl _), if_pos (Nat.lt_succ_self _),
    bigSep_congr (s := Finset.univ.erase e) (Ψ := fun x : Fin 15 => if x.val < e.val + 1 then D x else T x) fun x hx => by
      have hne : x.val ≠ e.val := fun h => (Finset.mem_erase.mp hx).1 (Fin.ext h)
      by_cases h : x.val < e.val
      · rw [if_pos h, if_pos (by omega)]
      · rw [if_neg h, if_neg (by omega)]]
  iintro ⟨HT, Hr⟩
  isplitl [HT]; · iexact HT
  iintro HD
  isplitl [HD] <;> iassumption
omit [FloatOps F] in
/-- A step already done can be looked at. -/
theorem mix_borrow (T D : Fin 15 → sProp 𝕄) (e : Fin 15) {k : ℕ} (hk : e.val < k) :
    mix k T D ⊢ iprop(D e ∗ (D e -∗ mix k T D)) := by
  unfold mix
  rw [bigSep_univ_at _ e, if_pos hk]
  iintro ⟨HT, Hr⟩
  isplitl [HT]; · iexact HT
  iintro HD
  isplitl [HD] <;> iassumption

variable (m : (ℓ : Loc nD τ sig) → Buf (Elt F) ℓ)

/-! ## The cells, and what every device knows of them -/

/-- A device's cells: its barrier, and its sixty copy semaphores. -/
abbrev CK : Type := Option (Fin 4 × Fin 15)
abbrev csem : CK → SemLoc sig := fun | none => .reg barS | some x => .dma (dsem x.1 x.2)
abbrev kcell (ck : Dev nD × CK) : GSem nD τ sig := ((ck.1 : Thread nD τ), csem ck.2)

variable (K : Dev nD × CK → ℕ)

/-- Every cell's invariant, and that its round 0 is reached. -/
def records : sProp 𝕄 :=
  iprop((bigSep Finset.univ fun ck : Dev nD × CK => cellInv ER (rd m) (K ck) (kcell ck))
    ∗ bigSep Finset.univ fun ck : Dev nD × CK => reached ER (kcell ck) 0)

instance records_persistent : BI.Persistent (records m K) := by unfold records; infer_instance

theorem inv_at (ck : Dev nD × CK) : records m K ⊢ cellInv ER (rd m) (K ck) (kcell ck) := by
  unfold records; iintro ⟨H, -⟩
  iapply (show (bigSep Finset.univ fun ck : Dev nD × CK => cellInv ER (rd m) (K ck) (kcell ck)) ⊢ cellInv ER (rd m) (K ck) (kcell ck) from bigSep_elim (Finset.mem_univ ck)); iexact H
theorem reached_at (ck : Dev nD × CK) : records m K ⊢ (reached ER (kcell ck) 0 : sProp 𝕄) := by
  unfold records; iintro ⟨-, H⟩
  iapply (show (bigSep Finset.univ fun ck : Dev nD × CK => (reached ER (kcell ck) 0 : sProp 𝕄)) ⊢ reached ER (kcell ck) 0 from bigSep_elim (Finset.mem_univ ck)); iexact H

/-- What a device owes, its record of waits left open. -/
def ow (c : Dev nD) (O : CellTallies nD τ sig Unit) : sProp 𝕄 := iprop(∃ W, owes (c : Thread nD τ) O W)

abbrev 𝒱₀ : Variants := Variants.none

/-- The weakest precondition of a piece of device `c`'s kernel. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- What the `e`-th signal needs: its duty's token, the slot and the rows it hands over. -/
def sigT (c : Dev nD) (e : Fin 15) : sProp 𝕄 :=
  iprop(dutyTok ER (barCell (peer c e)) 0 e ∗ (∃ f, slotPts c e.rev f) ∗ ∃ f, oPts c (peer c e) f)

/-- After `k` signals. -/
def sigSt (c : Dev nD) (k : ℕ) : sProp 𝕄 :=
  iprop(records m K ∗ ow c (owC 3 c 0 + owC 1 c 0 + owB c k) ∗ mix k (sigT c) fun _ => iprop(emp))

theorem sig_step (c n : Dev nD) (e : Fin 15) (k k' : ℕ) (hn : n.val = (peer c e).val) (hk : e.val = k) (hk' : k + 1 = k')
    {α : Type} {Q : α → sProp 𝕄} {kt : PUnit → Prog (TpuEff nD τ sig (Elt F) Λ₀ .tc) α} :
    sigSt m K c k ⊢ iprop((sigSt m K c k' -∗ wpc c (kt ⟨⟩) Q)
      -∗ wpc c (.op (.semSignal (n, .tc) barS (1#32).toInt) kt) Q) := by
  obtain rfl : n = peer c e := Fin.ext hn
  have hO : owC 3 c 0 + owC 1 c 0 + owB c k = owC 3 c 0 + owC 1 c 0 + owB c k' + tallyAt (barCell (peer c e)) () 1 := by
    subst hk hk'; rw [owB_step]; exact (add_assoc _ _ _).symm
  unfold sigSt ow
  iintro ⟨#HR, ⟨%W, HO⟩, Hm⟩ Hk
  ihave Hm' := (mix_take (sigT c) (fun _ => iprop(emp)) e hk hk') $$ Hm
  unfold sigT
  icases Hm' with ⟨⟨Ht, ⟨%f, Hs⟩, ⟨%g, Ho⟩⟩, Hm⟩
  iapply (Rounds.wp_signal 𝒱₀ ER (rd m) (c : Thread nD τ) none (dst := (peer c e : Thread nD τ)) (κ := K (peer c e, none))
      (d := e) (by rw [duties_bar]; exact Finset.mem_univ _) ((amount_bar m (peer c e) e).trans (by decide)) () (owC 3 c 0 + owC 1 c 0 + owB c k') hO) $$ [HO Ht Hs Ho]
  · isplitr; · iapply (inv_at m K (peer c e, none)); iexact HR
    isplitl [HO]; · iexact HO
    isplitl [Ht]; · iexact Ht
    isplitl [Hs Ho]
    · rw [payload_bar]; unfold barPay; rw [peer_rev_peer]
      isplitl [Hs]
      · iexists f; iexact Hs
      · iexists g; iexact Ho
    · iapply (reached_at m K (peer c e, none)); iexact HR
  iintro HO
  iapply Hk
  isplitr; · iexact HR
  isplitl [HO]; · iexists W; iexact HO
  iapply Hm; iempintro

/-- What a device's barrier gives it: for each peer, the slot it copies into there and its own rows there. -/
theorem barPays (c : Dev nD) : bigSep Finset.univ (barPay (F := F) c)
    = iprop((bigSep Finset.univ fun e : Fin 15 => iprop(∃ f, slotPts (F := F) (peer c e) e f)) ∗ bigSep Finset.univ fun e : Fin 15 => iprop(∃ f, oPts (F := F) (peer c e) c f)) := by
  rw [bigSep_univ_equiv Fin.revPerm (barPay (F := F) c), ← bigSep_sep']
  refine bigSep_congr fun e _ => ?_
  show barPay c e.rev = _
  unfold barPay
  rw [Fin.rev_rev]

/-- The wait for all fifteen peers. -/
theorem bar_step (c : Dev nD) {α : Type} {Q : α → sProp 𝕄} {kt : PUnit → Prog (TpuEff nD τ sig (Elt F) Λ₀ .tc) α} :
    iprop(levAts L lv ∗ sigSt m K c 15 ∗ cred (tallyAt (barCell c) () 15) ∗ atPos ER (barCell c) 0 ∅ 0)
      ⊢ iprop(((ow c (owC 3 c 0 + owC 1 c 0) ∗ semVal (barCell c) 0
          ∗ (bigSep Finset.univ fun e : Fin 15 => iprop(∃ f, slotPts (peer c e) e f)) ∗ (bigSep Finset.univ fun e : Fin 15 => iprop(∃ f, oPts (peer c e) c f)))
            -∗ wpc c (kt ⟨⟩) Q)
      -∗ wpc c (.op (.semWait barS (15#32).toInt) kt) Q) := by
  unfold sigSt ow
  iintro ⟨#Hlev, ⟨#HR, ⟨%W, HO⟩, -⟩, Hc, Hat⟩ Hk
  rw [owB_last, add_zero]
  iapply (Rounds.wp_wait_rest_token 𝒱₀ ER (rd m) (c : Thread nD τ) none (κ := K (c, none))
      (wpE_semWait_eq 𝒱₀ (c : Thread nD τ) none Set.univ) (Set.mem_univ _) () (O := owC 3 c 0 + owC 1 c 0) (W := W) (R := 0) (m := 0) (T := ∅)
      (by rw [expect_bar]; decide)) $$ [Hc HO Hat]
  · isplitr; · iapply (inv_at m K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq ((rest_bar m c).trans (barPays c))) $$ Hpay
  icases Hp with ⟨H1, H2⟩
  imod (Rounds.cell_close ER (rd m) (Set.mem_univ (K (c, none))) (fun h => h) (R := 0 + 1) (duties_later m (barCell c))) $$ [Hat] with Hz
  · isplitr; · iapply (inv_at m K (c, none)); iexact HR
    iexact Hat
  iapply Hk
  isplitl [HO]; · iexists _; iexact HO
  isplitl [Hz]; · iexact Hz
  isplitl [H1] <;> iassumption

/-! ## Copies -/

/-- The credit of the wait for cell family `j`. -/
def credD (j : Fin 4) (c : Dev nD) (e : Fin 15) : sProp 𝕄 := cred (tallyAt (dCell j c e) () N)

/-- A copy to the `e`-th peer, sent on cell family `js` and received on `jr`: the source's elements become the send
    cell's payload, the landed ones the receive cell's. -/
theorem send (js jr : Fin 4) (c : Dev nD) (e : Fin 15) {srcM dstM : Memref sig .tc .vmem S48x768 .bf16}
    {hsc : (dstM : Memref sig (Dev.tc (peer c e) : Thread nD τ).2.kind .vmem S48x768 .bf16).view.ref.isScScratch = false}
    {hsrc : srcM.view.WordExact} {hdst : dstM.view.WordExact}
    {hsem : DmaTarget.Typed .vmem (.dma (dsem jr e)) (.remote (Dev.tc (peer c e) : Thread nD τ) dstM (.dma (dsem js e)) hsc)}
    (q : PosShare TreeShare) (fs : Buf (Elt F) (srcM.view.loc (c : Thread nD τ))) (fd : Buf (Elt F) (dstM.view.loc (peer c e : Thread nD τ)))
    (hN : dstM.view.dmaCredit = N) (O₀ O : CellTallies nD τ sig Unit) (W : Waits sig Unit) (hO : O₀ = O + tallyAt (dCell jr (peer c e) e) () N)
    (P₁ P₂ : sProp 𝕄) (hP₁ : P₁ ⊢ (srcM.view.loc (c : Thread nD τ) ↦[srcM.view.set]{q} fs)) (hP₂ : P₂ ⊢ (dstM.view.loc (peer c e : Thread nD τ) ↦[dstM.view.set]{fullShare} fd))
    (hpay₁ : ((srcM.view.loc (c : Thread nD τ) ↦[srcM.view.set]{q} fs) : sProp 𝕄) ⊢ dPay m js c e)
    (hpay₂ : ((dstM.view.loc (peer c e : Thread nD τ) ↦[dstM.view.set]{fullShare} dstM.view.write (Elt F) fd (srcM.view.read (Elt F) fs) Finset.univ) : sProp 𝕄)
      ⊢ dPay m jr (peer c e) e)
    {α : Type} {Q : α → sProp 𝕄} {kt : PUnit → Prog (TpuEff nD τ sig (Elt F) Λ₀ .tc) α} :
    iprop(records m K ∗ P₁ ∗ P₂ ∗ owes (c : Thread nD τ) O₀ W ∗ dutyTok ER (dCell js c e) 0 0 ∗ dutyTok ER (dCell jr (peer c e) e) 0 0)
      ⊢ iprop(((credD js c e ∗ owes (c : Thread nD τ) O W) -∗ wpc c (kt ⟨⟩) Q)
        -∗ wpc c (.op (.enqueueDma srcM (.remote (Dev.tc (peer c e) : Thread nD τ) dstM (.dma (dsem js e)) hsc) (.dma (dsem jr e)) hsrc hdst hsem) kt) Q) := by
  unfold credD
  refine BIBase.Entails.trans ?_ (Rounds.wp_send_pointsTo 𝒱₀ ER (rd m) (c : Thread nD τ) none (κ₁ := K (c, some (js, e))) (κ₂ := K (peer c e, some (jr, e)))
    (r₁ := 0) (r₂ := 0) (d₁ := 0) (d₂ := 0) (q := q) (fs := fs) (fd := fd)
    (by rw [duties_dma]; exact Finset.mem_singleton_self _) (by rw [duties_dma]; exact Finset.mem_singleton_self _)
    () () N (show dstM.view.amount (.dma (dsem jr e)) = N from hN) (amount_dma m js c e 0) (amount_dma m jr (peer c e) e 0) O hO (W := W)
    (by rw [payload_dma]; exact hpay₁) (by rw [payload_dma]; exact hpay₂))
  iintro ⟨#HR, Hs, Hd, HO, Ht, Ht'⟩
  isplitr; · iapply (inv_at m K (c, some (js, e))); iexact HR
  isplitr; · iapply (inv_at m K (peer c e, some (jr, e))); iexact HR
  isplitl [Hs]; · iapply hP₁; iexact Hs
  isplitl [Hd]; · iapply hP₂; iexact Hd
  isplitl [HO]; · iexact HO
  isplitl [Ht]; · iexact Ht
  isplitr; · iapply (reached_at m K (c, some (js, e))); iexact HR
  isplitl [Ht']; · iexact Ht'
  iapply (reached_at m K (peer c e, some (jr, e))); iexact HR

/-! ## The first exchange's copies -/

def rsT (c : Dev nD) (e : Fin 15) : sProp 𝕄 :=
  iprop(dutyTok ER (dCell 0 c e) 0 0 ∗ dutyTok ER (dCell 1 (peer c e) e) 0 0 ∗ pPts c (peer c e) (partialOf m c) ∗ ∃ f, slotPts (peer c e) e f)

/-- After `k` copies of the first exchange are started. -/
def rsSt (c : Dev nD) (k : ℕ) : sProp 𝕄 := iprop(records m K ∗ ow c (owC 3 c 0 + owC 1 c k) ∗ mix k (rsT m c) (credD 0 c))

theorem pRow_pts (c p : Dev nD) (f : Buf (Elt F) ((c : Thread nD τ).loc cc0_scratch0)) :
    (((pRow p).view.loc (c : Thread nD τ) ↦[(pRow p).view.set]{fullShare} f) : sProp 𝕄) = pPts c p f := by
  unfold pPts; rw [pRow_set]
theorem slotM_pts (c : Dev nD) (e : Fin 15) (f : Buf (Elt F) ((c : Thread nD τ).loc cc0_scratch2)) :
    (((slotM e).view.loc (c : Thread nD τ) ↦[(slotM e).view.set]{fullShare} f) : sProp 𝕄) = slotPts c e f := by
  unfold slotPts; rw [slotM_set]
theorem oRow_pts (c p : Dev nD) (f : Buf (Elt F) ((c : Thread nD τ).loc cc0_stg3_0)) :
    (((oRow p).view.loc (c : Thread nD τ) ↦[(oRow p).view.set]{fullShare} f) : sProp 𝕄) = oPts c p f := by
  unfold oPts; rw [oRow_set]
theorem aM_pts (c : Dev nD) (q : PosShare TreeShare) :
    ((aM.view.loc (c : Thread nD τ) ↦[aM.view.set]{q} accOf m c) : sProp 𝕄) = aPts m c q := by
  have hset : aM.view.set = (Finset.univ : Finset ((cc0_scratch1 : Ref sig .tc).ty.shape.Idx)) := View.set_whole _
  unfold aPts; rw [hset]

/-- The slot the landed rows fill. -/
theorem rs_lands (c : Dev nD) (e : Fin 15) (f : Buf (Elt F) ((peer c e : Thread nD τ).loc cc0_scratch2)) :
    (((slotM e).view.loc (peer c e : Thread nD τ) ↦[(slotM e).view.set]{fullShare}
        (slotM e).view.write (Elt F) f ((pRow (peer c e)).view.read (Elt F) (partialOf m c)) Finset.univ) : sProp 𝕄) ⊢ dPay m 1 (peer c e) e := by
  show _ ⊢ slotPts (peer c e) e (landFull m (peer c e))
  unfold slotPts
  rw [slotM_set e]
  refine Entails.of_eq (pointsTo_congr fun i hi => ?_)
  have := land_write m (peer c e) e f hi
  rw [src_peer] at this
  exact this

theorem rs_step (c n : Dev nD) (e : Fin 15) (k k' : ℕ) (hn : n.val = (peer c e).val) (hk : e.val = k) (hk' : k + 1 = k')
    {srcM dstM : Memref sig .tc .vmem S48x768 .bf16} (hs : srcM = pRow (peer c e)) (hd : dstM = slotM e)
    {sS sR : DmaSem sig} (hsS : sS = dsem 0 e) (hsR : sR = dsem 1 e)
    {hsc : (dstM : Memref sig (Dev.tc n : Thread nD τ).2.kind .vmem S48x768 .bf16).view.ref.isScScratch = false}
    {hsrc : srcM.view.WordExact} {hdst : dstM.view.WordExact}
    {hsem : DmaTarget.Typed .vmem (.dma sR) (.remote (Dev.tc n : Thread nD τ) dstM (.dma sS) hsc)}
    {α : Type} {Q : α → sProp 𝕄} {kt : PUnit → Prog (TpuEff nD τ sig (Elt F) Λ₀ .tc) α} :
    rsSt m K c k ⊢ iprop((rsSt m K c k' -∗ wpc c (kt ⟨⟩) Q)
      -∗ wpc c (.op (.enqueueDma srcM (.remote (Dev.tc n : Thread nD τ) dstM (.dma sS) hsc) (.dma sR) hsrc hdst hsem) kt) Q) := by
  obtain rfl : n = peer c e := Fin.ext hn
  have hO : owC 3 c 0 + owC 1 c k = owC 3 c 0 + owC 1 c k' + tallyAt (dCell 1 (peer c e) e) () N := by
    subst hk hk'; rw [owC_step]; exact (add_assoc _ _ _).symm
  subst hs hd hsS hsR
  unfold rsSt ow
  iintro ⟨#HR, ⟨%W, HO⟩, Hm⟩ Hk
  ihave Hm' := (mix_take (rsT m c) (credD 0 c) e hk hk') $$ Hm
  unfold rsT
  icases Hm' with ⟨⟨HtS, HtR, Hp, ⟨%f, Hs⟩⟩, Hm⟩
  iapply (send m K 0 1 c e (srcM := pRow (peer c e)) (dstM := slotM e) fullShare (partialOf m c) f (N_slot e) (owC 3 c 0 + owC 1 c k) (owC 3 c 0 + owC 1 c k') W hO
    (pPts c (peer c e) (partialOf m c)) (slotPts (peer c e) e f) (Entails.of_eq (pRow_pts c _ _).symm) (Entails.of_eq (slotM_pts _ e f).symm)
    (Entails.of_eq (pRow_pts c _ _)) (rs_lands m c e f)) $$ [HO HtS HtR Hp Hs]
  · isplitr; · iexact HR
    isplitl [Hp]; · iexact Hp
    isplitl [Hs]; · iexact Hs
    isplitl [HO]; · iexact HO
    isplitl [HtS] <;> iassumption
  iintro ⟨Hc, HO⟩
  iapply Hk
  isplitr; · iexact HR
  isplitl [HO]; · iexists W; iexact HO
  iapply Hm; iexact Hc

/-! ## The second exchange's copies -/

def agT (c : Dev nD) (e : Fin 15) : sProp 𝕄 :=
  iprop(dutyTok ER (dCell 2 c e) 0 0 ∗ dutyTok ER (dCell 3 (peer c e) e) 0 0 ∗ aPts m c (Transfers.shareTok fullShare 15 e) ∗ ∃ f, oPts (peer c e) c f)

/-- After `k` copies of the second exchange are started. -/
def agSt (c : Dev nD) (k : ℕ) : sProp 𝕄 := iprop(records m K ∗ ow c (owC 3 c k) ∗ mix k (agT m c) (credD 2 c))

/-- The rows of a peer's result the landed rows fill. -/
theorem ag_lands (c : Dev nD) (e : Fin 15) (f : Buf (Elt F) ((peer c e : Thread nD τ).loc cc0_stg3_0)) :
    (((oRow c).view.loc (peer c e : Thread nD τ) ↦[(oRow c).view.set]{fullShare}
        (oRow c).view.write (Elt F) f (aM.view.read (Elt F) (accOf m c)) Finset.univ) : sProp 𝕄) ⊢ dPay m 3 (peer c e) e := by
  show _ ⊢ oPts (peer c e) (src (peer c e) e) (outFull m)
  rw [src_peer]
  unfold oPts
  rw [oRow_set c]
  exact Entails.of_eq (pointsTo_congr fun i hi => out_write m c f hi)

theorem ag_step (c n : Dev nD) (e : Fin 15) (k k' : ℕ) (hn : n.val = (peer c e).val) (hk : e.val = k) (hk' : k + 1 = k')
    {dstM : Memref sig .tc .vmem S48x768 .bf16} (hd : dstM = oRow c)
    {sS sR : DmaSem sig} (hsS : sS = dsem 2 e) (hsR : sR = dsem 3 e)
    {hsc : (dstM : Memref sig (Dev.tc n : Thread nD τ).2.kind .vmem S48x768 .bf16).view.ref.isScScratch = false}
    {hsrc : aM.view.WordExact} {hdst : dstM.view.WordExact}
    {hsem : DmaTarget.Typed .vmem (.dma sR) (.remote (Dev.tc n : Thread nD τ) dstM (.dma sS) hsc)}
    {α : Type} {Q : α → sProp 𝕄} {kt : PUnit → Prog (TpuEff nD τ sig (Elt F) Λ₀ .tc) α} :
    agSt m K c k ⊢ iprop((agSt m K c k' -∗ wpc c (kt ⟨⟩) Q)
      -∗ wpc c (.op (.enqueueDma aM (.remote (Dev.tc n : Thread nD τ) dstM (.dma sS) hsc) (.dma sR) hsrc hdst hsem) kt) Q) := by
  obtain rfl : n = peer c e := Fin.ext hn
  have hO : owC 3 c k = owC 3 c k' + tallyAt (dCell 3 (peer c e) e) () N := by
    subst hk hk'; rw [owC_step]
  subst hd hsS hsR
  unfold agSt ow
  iintro ⟨#HR, ⟨%W, HO⟩, Hm⟩ Hk
  ihave Hm' := (mix_take (agT m c) (credD 2 c) e hk hk') $$ Hm
  unfold agT
  icases Hm' with ⟨⟨HtS, HtR, Ha, ⟨%f, Ho⟩⟩, Hm⟩
  iapply (send m K 2 3 c e (srcM := aM) (dstM := oRow c) (Transfers.shareTok fullShare 15 e) (accOf m c) f (N_oRow c) (owC 3 c k) (owC 3 c k') W hO
    (aPts m c (Transfers.shareTok fullShare 15 e)) (oPts (peer c e) c f) (Entails.of_eq (aM_pts m c _).symm) (Entails.of_eq (oRow_pts _ c f).symm)
    (Entails.of_eq (aM_pts m c _)) (ag_lands m c e f)) $$ [HO HtS HtR Ha Ho]
  · isplitr; · iexact HR
    isplitl [Ha]; · iexact Ha
    isplitl [Ho]; · iexact Ho
    isplitl [HO]; · iexact HO
    isplitl [HtS] <;> iassumption
  iintro ⟨Hc, HO⟩
  iapply Hk
  isplitr; · iexact HR
  isplitl [HO]; · iexists W; iexact HO
  iapply Hm; iexact Hc

/-! ## Waits for a copy's end -/

def waitT (j : Fin 4) (c : Dev nD) (e : Fin 15) : sProp 𝕄 := iprop(credD j c e ∗ atPos ER (dCell j c e) 0 ∅ 0)
def waitD (j : Fin 4) (c : Dev nD) (e : Fin 15) : sProp 𝕄 := iprop(dPay m j c e ∗ semVal (dCell j c e) 0)

/-- After the first `k` waits of family `j`: those copies' payloads are here and their semaphores back at zero. -/
def waitSt (j : Fin 4) (c : Dev nD) (k : ℕ) : sProp 𝕄 := mix k (waitT j c) (waitD m j c)

theorem wait_step (j : Fin 4) (c : Dev nD) (e : Fin 15) (k k' : ℕ) (O : CellTallies nD τ sig Unit) (hk : e.val = k) (hk' : k + 1 = k')
    (hO : (levAts L lv : sProp 𝕄) ⊢ MayWait (c : Thread nD τ) (.dma (dsem j e)) () O)
    {q : DmaSem sig} (hq : q = dsem j e)
    {spS spD : Space} {sS sD : Shape} {eS eD : EltTy} {srcM : Memref sig .tc spS sS eS} {dstM : Memref sig .tc spD sD eD}
    {hsrc : srcM.view.WordExact} {hdst : dstM.view.WordExact} (hN : dstM.view.dmaCredit = N)
    {α : Type} {Q : α → sProp 𝕄} {kt : PUnit → Prog (TpuEff nD τ sig (Elt F) Λ₀ .tc) α} :
    iprop(levAts L lv ∗ records m K ∗ ow c O ∗ waitSt m j c k)
      ⊢ iprop(((ow c O ∗ waitSt m j c k') -∗ wpc c (kt ⟨⟩) Q) -∗ wpc c (.op (.waitDma2 q srcM dstM hsrc hdst) kt) Q) := by
  subst hq
  unfold waitSt ow
  iintro ⟨#Hlev, #HR, ⟨%W, HO⟩, Hm⟩ Hk
  ihave Hm' := (mix_take (waitT j c) (waitD m j c) e hk hk') $$ Hm
  unfold waitT credD
  icases Hm' with ⟨⟨Hc, Hat⟩, Hm⟩
  rw [← hN]
  iapply (Rounds.wp_wait_rest_token 𝒱₀ ER (rd m) (c : Thread nD τ) none (κ := K (c, some (j, e)))
      (wpE_waitDma2_eq 𝒱₀ (c : Thread nD τ) none Set.univ) (Set.mem_univ _) () (O := O) (W := W) (R := 0) (m := 0) (T := ∅)
      (by rw [Nat.zero_add, expect_dma, hN])) $$ [Hc HO Hat]
  · isplitr; · iapply (inv_at m K (c, some (j, e))); iexact HR
    isplitl [Hc]; · iexact Hc
    isplitl [HO]; · iexact HO
    isplitr; · iapply hO; iexact Hlev
    iexact Hat
  iintro ⟨HO, Hat, -, Hpay⟩
  ihave Hp := (Entails.of_eq (rest_dma m j c e)) $$ Hpay
  imod (Rounds.cell_close ER (rd m) (Set.mem_univ (K (c, some (j, e)))) (fun h => h) (R := 0 + 1) (duties_later m (dCell j c e))) $$ [Hat] with Hz
  · isplitr; · iapply (inv_at m K (c, some (j, e))); iexact HR
    iexact Hat
  iapply Hk
  isplitl [HO]; · iexists _; iexact HO
  iapply Hm
  unfold waitD
  isplitl [Hp] <;> iassumption

/-- The load of a slot whose copy has landed. -/
theorem load_slot (c : Dev nD) (e : Fin 15) (k : ℕ) (hk : e.val < k)
    {off' : Fin 3 → Nat} {inb' : ∀ a, off' a + S1x48x768.size a ≤ S15x48x768.size a} (hoff' : off' = slotOff e)
    {hld : (rM : Memref sig .tc .vmem S15x48x768 .bf16).view.LoadsAt (Rect.unit (s := S15x48x768) off' S1x48x768.size inb').toLoadRect}
    {α : Type} {Q : α → sProp 𝕄} {kt : Vec F S1x48x768 .bf16 → Prog (TpuEff nD τ sig (Elt F) Λ₀ .tc) α} :
    waitSt m 1 c k ⊢ iprop((waitSt m 1 c k -∗ wpc c (kt (slotVal m c e)) Q)
      -∗ wpc c (.op (.load rM (Rect.unit (s := S15x48x768) off' S1x48x768.size inb').toLoadRect hld) kt) Q) := by
  subst hoff'
  unfold waitSt
  iintro Hm Hk
  ihave Hm' := (mix_borrow (waitT 1 c) (waitD m 1 c) e hk) $$ Hm
  icases Hm' with ⟨HD, Hm⟩
  unfold waitD
  icases HD with ⟨Hp, Hz⟩
  ihave Hp' := (Entails.of_eq (show dPay m 1 c e = (((c : Thread nD τ).loc cc0_scratch2 ↦[slotS e]{fullShare} landFull m c) : sProp 𝕄) from rfl)) $$ Hp
  iapply (wp_load_rect 𝒱₀ (c : Thread nD τ) none Set.univ (m := rM) (r := slotR e) (S := slotS e) (q := fullShare) (f := landFull m c) ((View.set_slice_whole _ _).le)) $$ Hp'
  iintro Hp
  iapply Hk
  iapply Hm
  isplitl [Hp]
  · iapply (Entails.of_eq (show ((((c : Thread nD τ).loc cc0_scratch2 ↦[slotS e]{fullShare} landFull m c) : sProp 𝕄) = dPay m 1 c e) from rfl)); iexact Hp
  iexact Hz

end Cert.FfnProof

end
-- ==== Proof.Ops.lean ====
/-
The kernel's operations on its own buffers, the states its phases run through, and how buffers are cut into the pieces
the phases pass around and put together again.
-/
module

public import proofs.«01_k».proof.Proof.Steps

@[expose] public section

set_option maxRecDepth 16384

noncomputable section

namespace Cert.FfnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Buffers in pieces -/

/-- The product's buffer, by devices' rows: the device's own and each peer's. -/
theorem p_rows (c : Dev nD) (f : Buf (Elt F) ((c : Thread nD τ).loc cc0_scratch0)) :
    ((((c : Thread nD τ).loc cc0_scratch0) ↦{fullShare} f) : sProp 𝕄)
      = iprop(pPts c c f ∗ bigSep Finset.univ fun e : Fin 15 => pPts c (peer c e) f) := by
  have h := pointsTo_biUnion (ℓ := (c : Thread nD τ).loc cc0_scratch0) (q := fullShare) (f := f) (Ix := Unit) (Name := ℕ) (U := UU) (Lvl := ℕ) (Finset.univ : Finset (Dev nD)) rowsS fun p _ p' _ hp => rows_disjoint p p' hp
  rw [rows_union, univ_eq_peers c, bigSep_insert (not_mem_peers c), bigSep_map] at h
  exact h
/-- The result's buffer, likewise. -/
theorem o_rows (c : Dev nD) (f : Buf (Elt F) ((c : Thread nD τ).loc cc0_stg3_0)) :
    ((((c : Thread nD τ).loc cc0_stg3_0) ↦{fullShare} f) : sProp 𝕄)
      = iprop(oPts c c f ∗ bigSep Finset.univ fun e : Fin 15 => oPts c (peer c e) f) := by
  have h := pointsTo_biUnion (ℓ := (c : Thread nD τ).loc cc0_stg3_0) (q := fullShare) (f := f) (Ix := Unit) (Name := ℕ) (U := UU) (Lvl := ℕ) (Finset.univ : Finset (Dev nD)) rowsS fun p _ p' _ hp => rows_disjoint p p' hp
  rw [rows_union, univ_eq_peers c, bigSep_insert (not_mem_peers c), bigSep_map] at h
  exact h
/-- The landing buffer, by slots. -/
theorem r_slots (c : Dev nD) (f : Buf (Elt F) ((c : Thread nD τ).loc cc0_scratch2)) :
    ((((c : Thread nD τ).loc cc0_scratch2) ↦{fullShare} f) : sProp 𝕄) = bigSep Finset.univ fun e : Fin 15 => slotPts c e f := by
  have h := pointsTo_biUnion (ℓ := (c : Thread nD τ).loc cc0_scratch2) (q := fullShare) (f := f) (Ix := Unit) (Name := ℕ) (U := UU) (Lvl := ℕ) (Finset.univ : Finset (Fin 15)) slotS fun p _ p' _ hp => slots_disjoint p p' hp
  rw [slots_union] at h
  exact h
/-- The sum's buffer, by shares: one for each copy of the second exchange, and what is left. -/
theorem a_shares (c : Dev nD) : (aPts m c fullShare : sProp 𝕄)
    ⊣⊢ iprop(aPts m c (Transfers.shareDrop fullShare 15) ∗ bigSep Finset.univ fun e : Fin 15 => aPts m c (Transfers.shareTok fullShare 15 e)) :=
  Transfers.pointsTo_toks fullShare 15

/-! ## States -/

/-- The first exchange's waits: `k` done. -/
def recvSt (c : Dev nD) (k : ℕ) : sProp 𝕄 := iprop(levAts L lv ∗ records m K ∗ ow c (owC 3 c 0) ∗ waitSt m 1 c k)

theorem recv_step (c : Dev nD) (e : Fin 15) (k k' : ℕ) (hk : e.val = k) (hk' : k + 1 = k')
    {q : DmaSem sig} (hq : q = dsem 1 e)
    {spS : Space} {sS : Shape} {eS : EltTy} {srcM : Memref sig .tc spS sS eS} {off' : Fin 3 → Nat} {inb' : ∀ a, off' a + S1x48x768.size a ≤ S15x48x768.size a} {hu : ∀ a, (Rect.unit (s := S15x48x768) off' S1x48x768.size inb').stride a = 1}
    {hsrc : srcM.view.WordExact} {hdst : (((rM.slice (Rect.unit (s := S15x48x768) off' S1x48x768.size inb') hu).squeeze S48x768 squeezes_S1x48x768_S48x768) : Memref sig .tc .vmem S48x768 .bf16).view.WordExact}
    {α : Type} {Q : α → sProp 𝕄} {kt : PUnit → Prog (TpuEff nD τ sig (Elt F) Λ₀ .tc) α} :
    recvSt m K c k ⊢ iprop((recvSt m K c k' -∗ wpc c (kt ⟨⟩) Q) -∗ wpc c (.op (.waitDma2 q srcM ((rM.slice (Rect.unit (s := S15x48x768) off' S1x48x768.size inb') hu).squeeze S48x768 squeezes_S1x48x768_S48x768) hsrc hdst) kt) Q) := by
  have hN : (((rM.slice (Rect.unit (s := S15x48x768) off' S1x48x768.size inb') hu).squeeze S48x768 squeezes_S1x48x768_S48x768) : Memref sig .tc .vmem S48x768 .bf16).view.dmaCredit = N := rfl
  unfold recvSt
  iintro ⟨#Hl, #HR, HO, Hw⟩ Hk
  iapply (wait_step m K 1 c e k k' (owC 3 c 0) hk hk' (mayWait_recv c e) hq hN) $$ [HO Hw]
  · isplitr; · iexact Hl
    isplitr; · iexact HR
    isplitl [HO] <;> iassumption
  iintro ⟨HO, Hw⟩
  iapply Hk
  isplitr; · iexact Hl
  isplitr; · iexact HR
  isplitl [HO] <;> iassumption

theorem recv_load (c : Dev nD) (e : Fin 15) (k : ℕ) (hk : e.val < k)
    {off' : Fin 3 → Nat} {inb' : ∀ a, off' a + S1x48x768.size a ≤ S15x48x768.size a} (hoff' : off' = slotOff e)
    {hld : (rM : Memref sig .tc .vmem S15x48x768 .bf16).view.LoadsAt (Rect.unit (s := S15x48x768) off' S1x48x768.size inb').toLoadRect}
    {α : Type} {Q : α → sProp 𝕄} {kt : Vec F S1x48x768 .bf16 → Prog (TpuEff nD τ sig (Elt F) Λ₀ .tc) α} :
    recvSt m K c k ⊢ iprop((recvSt m K c k -∗ wpc c (kt (slotVal m c e)) Q)
      -∗ wpc c (.op (.load rM (Rect.unit (s := S15x48x768) off' S1x48x768.size inb').toLoadRect hld) kt) Q) := by
  unfold recvSt
  iintro ⟨#Hl, #HR, HO, Hw⟩ Hk
  iapply (load_slot m c e k hk hoff') $$ Hw
  iintro Hw
  iapply Hk
  isplitr; · iexact Hl
  isplitr; · iexact HR
  isplitl [HO] <;> iassumption

/-- The last waits: `a` of the second exchange's landings, `b` of the first exchange's sends, `d` of the second's. -/
def finSt (c : Dev nD) (a b d : ℕ) : sProp 𝕄 :=
  iprop(levAts L lv ∗ records m K ∗ ow c 0 ∗ waitSt m 3 c a ∗ waitSt m 0 c b ∗ waitSt m 2 c d)

/-- The copies of the first exchange all started. -/
theorem rsSt_last (c : Dev nD) : rsSt m K c 15 ⊢ iprop(records m K ∗ ow c (owC 3 c 0) ∗ bigSep Finset.univ (credD (F := F) 0 c)) := by
  unfold rsSt; rw [owC_last, add_zero, mix_last]

theorem mayWait_none (c : Dev nD) (sm : SemLoc sig) : (levAts L lv : sProp 𝕄) ⊢ MayWait (c : Thread nD τ) sm () 0 := by
  rw [MayWait_zero]; iintro -; iempintro

theorem fin_land (c : Dev nD) (e : Fin 15) (a a' b d : ℕ) (hk : e.val = a) (hk' : a + 1 = a') {q : DmaSem sig} (hq : q = dsem 3 e)
    {spS : Space} {sS : Shape} {eS : EltTy} {srcM : Memref sig .tc spS sS eS} {off : Fin 2 → Nat} {inb : ∀ a, off a + S48x768.size a ≤ S768x768.size a} {hu : ∀ a, (Rect.unit (s := S768x768) off S48x768.size inb).stride a = 1}
    {hsrc : srcM.view.WordExact} {hdst : ((oM.slice (Rect.unit (s := S768x768) off S48x768.size inb) hu) : Memref sig .tc .vmem S48x768 .bf16).view.WordExact}
    {α : Type} {Q : α → sProp 𝕄} {kt : PUnit → Prog (TpuEff nD τ sig (Elt F) Λ₀ .tc) α} :
    finSt m K c a b d ⊢ iprop((finSt m K c a' b d -∗ wpc c (kt ⟨⟩) Q) -∗ wpc c (.op (.waitDma2 q srcM (oM.slice (Rect.unit (s := S768x768) off S48x768.size inb) hu) hsrc hdst) kt) Q) := by
  have hN : ((oM.slice (Rect.unit (s := S768x768) off S48x768.size inb) hu) : Memref sig .tc .vmem S48x768 .bf16).view.dmaCredit = N := rfl
  unfold finSt
  iintro ⟨#Hl, #HR, HO, Hw, Hr⟩ Hk
  iapply (wait_step m K 3 c e a a' 0 hk hk' (mayWait_none c _) hq hN) $$ [HO Hw]
  · isplitr; · iexact Hl
    isplitr; · iexact HR
    isplitl [HO] <;> iassumption
  iintro ⟨HO, Hw⟩
  iapply Hk
  isplitr; · iexact Hl
  isplitr; · iexact HR
  isplitl [HO]; · iexact HO
  isplitl [Hw] <;> iassumption

theorem fin_sent (c : Dev nD) (e : Fin 15) (a b b' d : ℕ) (hk : e.val = b) (hk' : b + 1 = b') {q : DmaSem sig} (hq : q = dsem 0 e)
    {spS : Space} {sS : Shape} {eS : EltTy} {srcM : Memref sig .tc spS sS eS} {off : Fin 2 → Nat} {inb : ∀ a, off a + S48x768.size a ≤ S768x768.size a} {hu : ∀ a, (Rect.unit (s := S768x768) off S48x768.size inb).stride a = 1}
    {hsrc : srcM.view.WordExact} {hdst : ((pM.slice (Rect.unit (s := S768x768) off S48x768.size inb) hu) : Memref sig .tc .vmem S48x768 .bf16).view.WordExact}
    {α : Type} {Q : α → sProp 𝕄} {kt : PUnit → Prog (TpuEff nD τ sig (Elt F) Λ₀ .tc) α} :
    finSt m K c a b d ⊢ iprop((finSt m K c a b' d -∗ wpc c (kt ⟨⟩) Q) -∗ wpc c (.op (.waitDma2 q srcM (pM.slice (Rect.unit (s := S768x768) off S48x768.size inb) hu) hsrc hdst) kt) Q) := by
  have hN : ((pM.slice (Rect.unit (s := S768x768) off S48x768.size inb) hu) : Memref sig .tc .vmem S48x768 .bf16).view.dmaCredit = N := rfl
  unfold finSt
  iintro ⟨#Hl, #HR, HO, Hw, Hr, Hs⟩ Hk
  iapply (wait_step m K 0 c e b b' 0 hk hk' (mayWait_none c _) hq hN) $$ [HO Hr]
  · isplitr; · iexact Hl
    isplitr; · iexact HR
    isplitl [HO] <;> iassumption
  iintro ⟨HO, Hr⟩
  iapply Hk
  isplitr; · iexact Hl
  isplitr; · iexact HR
  isplitl [HO]; · iexact HO
  isplitl [Hw]; · iexact Hw
  isplitl [Hr] <;> iassumption

theorem fin_shared (c : Dev nD) (e : Fin 15) (a b d d' : ℕ) (hk : e.val = d) (hk' : d + 1 = d') {q : DmaSem sig} (hq : q = dsem 2 e)
    {spS : Space} {sS : Shape} {eS : EltTy} {srcM : Memref sig .tc spS sS eS}
    {hsrc : srcM.view.WordExact} {hdst : (aM : Memref sig .tc .vmem S48x768 .bf16).view.WordExact}
    {α : Type} {Q : α → sProp 𝕄} {kt : PUnit → Prog (TpuEff nD τ sig (Elt F) Λ₀ .tc) α} :
    finSt m K c a b d ⊢ iprop((finSt m K c a b d' -∗ wpc c (kt ⟨⟩) Q) -∗ wpc c (.op (.waitDma2 q srcM aM hsrc hdst) kt) Q) := by
  have hN : (aM : Memref sig .tc .vmem S48x768 .bf16).view.dmaCredit = N := rfl
  unfold finSt
  iintro ⟨#Hl, #HR, HO, Hw, Hr, Hs⟩ Hk
  iapply (wait_step m K 2 c e d d' 0 hk hk' (mayWait_none c _) hq hN) $$ [HO Hs]
  · isplitr; · iexact Hl
    isplitr; · iexact HR
    isplitl [HO] <;> iassumption
  iintro ⟨HO, Hs⟩
  iapply Hk
  isplitr; · iexact Hl
  isplitr; · iexact HR
  isplitl [HO]; · iexact HO
  isplitl [Hw]; · iexact Hw
  isplitl [Hr] <;> iassumption

/-! ## The kernel's rectangles as the pieces -/

theorem pSlice {off : Fin 2 → Nat} {inb : ∀ a, off a + S48x768.size a ≤ S768x768.size a} (p : Dev nD) (h : off = rowOff p) :
    (pM.slice (Rect.unit (s := S768x768) off S48x768.size inb) (fun _ => rfl) : Memref sig .tc .vmem S48x768 .bf16) = pRow p := by
  subst h; rfl
theorem oSlice {off : Fin 2 → Nat} {inb : ∀ a, off a + S48x768.size a ≤ S768x768.size a} (p : Dev nD) (h : off = rowOff p) :
    (oM.slice (Rect.unit (s := S768x768) off S48x768.size inb) (fun _ => rfl) : Memref sig .tc .vmem S48x768 .bf16) = oRow p := by
  subst h; rfl

/-- Two zero offsets, as the launch and the kernel write them. -/
theorem hz : (![0, 0] : Fin 2 → Nat) = fun _ => 0 := by
  funext a; fin_cases a <;> rfl

/-- The load of the device's own rows of its product. -/
theorem load_own (c : Dev nD) {off : Fin 2 → Nat} {inb : ∀ a, off a + S48x768.size a ≤ S768x768.size a} (hoff : off = rowOff c)
    {hld : (pM : Memref sig .tc .vmem S768x768 .bf16).view.LoadsAt (Rect.unit (s := S768x768) off S48x768.size inb).toLoadRect}
    {α : Type} {Q : α → sProp 𝕄} {kt : Vec F S48x768 .bf16 → Prog (TpuEff nD τ sig (Elt F) Λ₀ .tc) α} :
    pPts c c (partialOf m c) ⊢ iprop((pPts c c (partialOf m c) -∗ wpc c (kt (ownRows m c)) Q)
      -∗ wpc c (.op (.load pM (Rect.unit (s := S768x768) off S48x768.size inb).toLoadRect hld) kt) Q) := by
  subst hoff
  unfold pPts
  exact wp_load_rect 𝒱₀ (c : Thread nD τ) none Set.univ (m := pM) (r := rowR c) (S := rowsS c) (q := fullShare) (f := partialOf m c) (View.set_slice_whole _ _).le

/-- The load of the device's rows of the result (whatever is there). -/
theorem load_out (c : Dev nD) (f : Buf (Elt F) ((c : Thread nD τ).loc cc0_stg3_0)) {off : Fin 2 → Nat} {inb : ∀ a, off a + S48x768.size a ≤ S768x768.size a} (hoff : off = rowOff c)
    {hld : (oM : Memref sig .tc .vmem S768x768 .bf16).view.LoadsAt (Rect.unit (s := S768x768) off S48x768.size inb).toLoadRect}
    {α : Type} {Q : α → sProp 𝕄} {kt : Vec F S48x768 .bf16 → Prog (TpuEff nD τ sig (Elt F) Λ₀ .tc) α} :
    oPts c c f ⊢ iprop((oPts c c f -∗ ∀ v, wpc c (kt v) Q)
      -∗ wpc c (.op (.load oM (Rect.unit (s := S768x768) off S48x768.size inb).toLoadRect hld) kt) Q) := by
  subst hoff
  unfold oPts
  iintro H Hk
  iapply (wp_load_rect 𝒱₀ (c : Thread nD τ) none Set.univ (m := oM) (r := rowR c) (S := rowsS c) (q := fullShare) (f := f) (View.set_slice_whole _ _).le) $$ H
  iintro Ho
  ihave Hk' := Hk $$ Ho
  iapply Hk'

/-- The store of the device's sum into its rows of the result. -/
theorem store_out (c : Dev nD) (f : Buf (Elt F) ((c : Thread nD τ).loc cc0_stg3_0)) {off : Fin 2 → Nat} {inb : ∀ a, off a + S48x768.size a ≤ S768x768.size a} (hoff : off = rowOff c)
    (w : Vec F S48x768 .bf16) (hw : w = accOf m c)
    {hx : ((oM : Memref sig .tc .vmem S768x768 .bf16).access (Rect.unit (s := S768x768) off S48x768.size inb)).Stores Finset.univ}
    {hm : (Finset.univ : Finset (Rect.unit (s := S768x768) off S48x768.size inb).shape.Idx) = Finset.univ ∨ ∀ a, (Rect.unit (s := S768x768) off S48x768.size inb).stride a = 1}
    {α : Type} {Q : α → sProp 𝕄} {kt : PUnit → Prog (TpuEff nD τ sig (Elt F) Λ₀ .tc) α} :
    oPts c c f ⊢ iprop((oPts c c (outFull m) -∗ wpc c (kt ⟨⟩) Q)
      -∗ wpc c (.op (.store oM (Rect.unit (s := S768x768) off S48x768.size inb) w Finset.univ hx hm) kt) Q) := by
  subst hoff
  have hst : (((oM : Memref sig .tc .vmem S768x768 .bf16).access (rowR c)).loc (c : Thread nD τ) ↦[rowsS c]{fullShare}
        ((oM : Memref sig .tc .vmem S768x768 .bf16).access (rowR c)).write (Elt F) f w Finset.univ : sProp 𝕄) = oPts c c (outFull m) :=
    pointsTo_congr fun i hi => out_store m c f w hw hi
  rw [← hst]
  unfold oPts
  exact wp_store 𝒱₀ (c : Thread nD τ) none Set.univ (m := oM) (r := rowR c) (w := w) (Mk := Finset.univ) (S := rowsS c) (f := f)
    (by rw [View.setOn_univ]; exact (View.set_slice_whole _ _).le)

/-- The load of the sum. -/
theorem load_sum (c : Dev nD) (q : PosShare TreeShare) {hld : (aM : Memref sig .tc .vmem S48x768 .bf16).view.LoadsAt (Rect.unit (s := S48x768) ![0, 0] S48x768.size inb_S48x768_S48x768_0_0).toLoadRect}
    {α : Type} {Q : α → sProp 𝕄} {kt : Vec F S48x768 .bf16 → Prog (TpuEff nD τ sig (Elt F) Λ₀ .tc) α} :
    aPts m c q ⊢ iprop((aPts m c q -∗ wpc c (kt (accOf m c)) Q)
      -∗ wpc c (.op (.load aM (Rect.unit (s := S48x768) ![0, 0] S48x768.size inb_S48x768_S48x768_0_0).toLoadRect hld) kt) Q) := by
  unfold aPts
  iintro H Hk
  iapply (wp_load 𝒱₀ (c : Thread nD τ) none Set.univ (m := aM) (S := Finset.univ) (q := q) (f := accOf m c) (Finset.subset_univ _)) $$ H
  rw [show (aM : Memref sig .tc .vmem S48x768 .bf16).view.readAt (Elt F) (Rect.unit (s := S48x768) ![0, 0] S48x768.size inb_S48x768_S48x768_0_0).toLoadRect (accOf m c) = accOf m c
    from Memref.readAt_unit_zero (Elt F) cc0_scratch1 hz _ (accOf m c)]
  iexact Hk

/-- The load of the sum's buffer before the sum is stored (whatever is there), -/
theorem load_acc (c : Dev nD) (f : Buf (Elt F) ((c : Thread nD τ).loc cc0_scratch1)) {hld : (aM : Memref sig .tc .vmem S48x768 .bf16).view.LoadsAt (Rect.unit (s := S48x768) ![0, 0] S48x768.size inb_S48x768_S48x768_0_0).toLoadRect}
    {α : Type} {Q : α → sProp 𝕄} {kt : Vec F S48x768 .bf16 → Prog (TpuEff nD τ sig (Elt F) Λ₀ .tc) α} :
    (((c : Thread nD τ).loc cc0_scratch1 ↦{fullShare} f) : sProp 𝕄) ⊢ iprop((((c : Thread nD τ).loc cc0_scratch1 ↦{fullShare} f) -∗ ∀ v, wpc c (kt v) Q)
      -∗ wpc c (.op (.load aM (Rect.unit (s := S48x768) ![0, 0] S48x768.size inb_S48x768_S48x768_0_0).toLoadRect hld) kt) Q) := by
  iintro H Hk
  iapply (wp_load 𝒱₀ (c : Thread nD τ) none Set.univ (m := aM) (S := Finset.univ) (q := fullShare) (f := f) (Finset.subset_univ _)) $$ H
  iintro Ho
  ihave Hk' := Hk $$ Ho
  iapply Hk'

/-- and its store. -/
theorem store_acc (c : Dev nD) (f : Buf (Elt F) ((c : Thread nD τ).loc cc0_scratch1)) (w : Vec F S48x768 .bf16) (hw : w = accOf m c)
    {hx : ((aM : Memref sig .tc .vmem S48x768 .bf16).access (Rect.unit (s := S48x768) ![0, 0] S48x768.size inb_S48x768_S48x768_0_0)).Stores Finset.univ}
    {hm : (Finset.univ : Finset (Rect.unit (s := S48x768) ![0, 0] S48x768.size inb_S48x768_S48x768_0_0).shape.Idx) = Finset.univ ∨ ∀ a, (Rect.unit (s := S48x768) ![0, 0] S48x768.size inb_S48x768_S48x768_0_0).stride a = 1}
    {α : Type} {Q : α → sProp 𝕄} {kt : PUnit → Prog (TpuEff nD τ sig (Elt F) Λ₀ .tc) α} :
    (((c : Thread nD τ).loc cc0_scratch1 ↦{fullShare} f) : sProp 𝕄) ⊢ iprop((aPts m c fullShare -∗ wpc c (kt ⟨⟩) Q)
      -∗ wpc c (.op (.store aM (Rect.unit (s := S48x768) ![0, 0] S48x768.size inb_S48x768_S48x768_0_0) w Finset.univ hx hm) kt) Q) := by
  unfold aPts
  rw [← hw]
  iintro H Hk
  iapply (wp_store 𝒱₀ (c : Thread nD τ) none Set.univ (m := aM) (r := Rect.unit (s := S48x768) ![0, 0] S48x768.size inb_S48x768_S48x768_0_0) (w := w) (Mk := Finset.univ) (S := Finset.univ) (f := f) (Finset.subset_univ _)) $$ H
  rw [show ((aM : Memref sig .tc .vmem S48x768 .bf16).access (Rect.unit (s := S48x768) ![0, 0] S48x768.size inb_S48x768_S48x768_0_0) : View sig .tc _ _ _).write (Elt F) f w Finset.univ = w
    from Memref.write_access_unit_zero_univ (Elt F) cc0_scratch1 hz _ f w]
  iexact Hk

end Cert.FfnProof

end
-- ==== Proof.PartsA.lean ====
/-
The kernel's first seven pieces: the product, and the barrier every device raises with every other.
-/
module

public import proofs.«01_k».proof.Proof.Ops

@[expose] public section

set_option maxRecDepth 16384

noncomputable section

namespace Cert.FfnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)
variable {arg0 : Memref sig .tc .vmem S768x768 .bf16} {harg0 : arg0.IsWhole} {arg1 : Memref sig .tc .vmem S768x1536 .bf16} {harg1 : arg1.IsWhole}
  {arg2 : Memref sig .tc .vmem S1536x768 .bf16} {harg2 : arg2.IsWhole} {harg3 : (oM : Memref sig .tc .vmem S768x768 .bf16).IsWhole}
  {harg4 : (pM : Memref sig .tc .vmem S768x768 .bf16).IsWhole} {harg5 : (aM : Memref sig .tc .vmem S48x768 .bf16).IsWhole} {harg6 : (rM : Memref sig .tc .vmem S15x48x768 .bf16).IsWhole}

/-- A whole load reads the buffer: `x`, -/
theorem read_x (c : Dev nD) : (Memref.whole cc0_stg0_0 : Memref sig .tc .vmem S768x768 .bf16).view.readAt (Elt F) (Rect.unit (s := S768x768) ![0, 0] S768x768.size inb_S768x768_S768x768_0_0).toLoadRect (xStg m c) = xStg m c :=
  Memref.readAt_unit_zero (Elt F) cc0_stg0_0 hz _ _
/-- the columns of `W1`, -/
theorem read_w1 (c : Dev nD) : (Memref.whole cc0_stg1_0 : Memref sig .tc .vmem S768x1536 .bf16).view.readAt (Elt F) (Rect.unit (s := S768x1536) ![0, 0] S768x1536.size inb_S768x1536_S768x1536_0_0).toLoadRect (w1Stg m c) = w1Stg m c :=
  Memref.readAt_unit_zero (Elt F) cc0_stg1_0 hz _ _
/-- the rows of `W2`; -/
theorem read_w2 (c : Dev nD) : (Memref.whole cc0_stg2_0 : Memref sig .tc .vmem S1536x768 .bf16).view.readAt (Elt F) (Rect.unit (s := S1536x768) ![0, 0] S1536x768.size inb_S1536x768_S1536x768_0_0).toLoadRect (w2Stg m c) = w2Stg m c :=
  Memref.readAt_unit_zero (Elt F) cc0_stg2_0 hz _ _
/-- and a whole store leaves what it stores. -/
theorem write_p (c : Dev nD) (f : Buf (Elt F) ((c : Thread nD τ).loc cc0_scratch0)) (w : Vec F S768x768 .bf16) :
    ((pM : Memref sig .tc .vmem S768x768 .bf16).access (Rect.unit (s := S768x768) ![0, 0] S768x768.size inb_S768x768_S768x768_0_0) : View sig .tc _ _ _).write (Elt F) f w Finset.univ = w :=
  Memref.write_access_unit_zero_univ (Elt F) cc0_scratch0 hz _ f w

/-- Piece 1: the product into its buffer, and the first signal. -/
theorem wp_part1 {harg0 : (Memref.whole cc0_stg0_0 : Memref sig .tc .vmem S768x768 .bf16).IsWhole} {harg1 : (Memref.whole cc0_stg1_0 : Memref sig .tc .vmem S768x1536 .bf16).IsWhole} {harg2 : (Memref.whole cc0_stg2_0 : Memref sig .tc .vmem S1536x768 .bf16).IsWhole} (c : Dev nD)  {α : Type} {Q : α → sProp 𝕄}
    {kt : (Σ' (d0 : Dev nD) (v2 : BitVec 32) (v18 : Sems sig S_), BitVec 32) → Prog (TpuEff nD τ sig (Elt F) Λ₀ .tc) α} :
    (iprop(sigSt m K c 0 ∗ (((c : Thread nD τ).loc cc0_stg0_0) ↦{fullShare} xStg m c) ∗ (((c : Thread nD τ).loc cc0_stg1_0) ↦{fullShare} w1Stg m c) ∗ (((c : Thread nD τ).loc cc0_stg2_0) ↦{fullShare} w2Stg m c) ∗ ∃ f, (((c : Thread nD τ).loc cc0_scratch0) ↦{fullShare} f))) ⊢ iprop((∀ v2 v32, (iprop(sigSt m K c 1 ∗ (((c : Thread nD τ).loc cc0_stg0_0) ↦{fullShare} xStg m c) ∗ (((c : Thread nD τ).loc cc0_stg1_0) ↦{fullShare} w1Stg m c) ∗ (((c : Thread nD τ).loc cc0_stg2_0) ↦{fullShare} w2Stg m c) ∗ (((c : Thread nD τ).loc cc0_scratch0) ↦{fullShare} partialOf m c))) -∗ wpc c (kt ⟨c, v2, SemArray.scalar (sig.barrier 0 rfl), v32⟩) Q)
      -∗ wpc c (k0_part1 (F := F) (Memref.whole cc0_stg0_0) harg0 (Memref.whole cc0_stg1_0) harg1 (Memref.whole cc0_stg2_0) harg2 oM harg3 pM harg4 aM harg5 rM harg6 cc0_scratch3 cc0_scratch4 cc0_scratch5 cc0_scratch6 >>= kt) Q) := by
  simp only [k0_part1_eq_skeleton]; unfold k0_part1_skel
  simp only [semSignalWord, semWaitWord, Prog.lift, Prog.bind_op, Prog.bind_ret, Prog.pure_eq_ret]
  iintro ⟨HS, H0, H1, H2, ⟨%f, Hp⟩⟩ Hk
  simp only [wp_deviceId]
  iapply (wp_load 𝒱₀ (c : Thread nD τ) none Set.univ (m := Memref.whole cc0_stg0_0) (Finset.subset_univ _)) $$ H0; iintro H0
  rw [read_x m c]
  iapply (wp_load 𝒱₀ (c : Thread nD τ) none Set.univ (m := Memref.whole cc0_stg1_0) (Finset.subset_univ _)) $$ H1; iintro H1
  rw [read_w1 m c]
  iapply (wp_load 𝒱₀ (c : Thread nD τ) none Set.univ (m := Memref.whole cc0_stg2_0) (Finset.subset_univ _)) $$ H2; iintro H2
  rw [read_w2 m c]
  iapply (wp_load 𝒱₀ (c : Thread nD τ) none Set.univ (m := pM) (Finset.subset_univ _)) $$ Hp; iintro Hp
  iapply (wp_store 𝒱₀ (c : Thread nD τ) none Set.univ (m := pM) (r := Rect.unit (s := S768x768) ![0, 0] S768x768.size inb_S768x768_S768x768_0_0) (Mk := Finset.univ) (S := Finset.univ) (Finset.subset_univ _)) $$ Hp; iintro Hp
  rw [write_p c f]
  iapply (sig_step m K c _ 0 0 1 ((devSig_eq c).1) rfl rfl) $$ HS; iintro HS
  iapply Hk
  isplitl [HS]; · iexact HS
  isplitl [H0]; · iexact H0
  isplitl [H1]; · iexact H1
  isplitl [H2]; · iexact H2
  iexact Hp

/-- Piece 2: signals to the peers 2 to 3 places on. -/
theorem wp_part2 (c : Dev nD) (v2 : BitVec 32) (v32 : BitVec 32) {α : Type} {Q : α → sProp 𝕄}
    {kt : (Σ' (v60 : BitVec 32) (v61 : BitVec 32) (v62 : BitVec 1) (v63 : BitVec 1), BitVec 1) → Prog (TpuEff nD τ sig (Elt F) Λ₀ .tc) α} :
    (sigSt m K c 1) ⊢ iprop((∀ r, (sigSt m K c 3) -∗ wpc c (kt r) Q)
      -∗ wpc c (k0_part2 (F := F) arg0 harg0 arg1 harg1 arg2 harg2 oM harg3 pM harg4 aM harg5 rM harg6 cc0_scratch3 cc0_scratch4 cc0_scratch5 cc0_scratch6 c v2 (SemArray.scalar (sig.barrier 0 rfl)) v32 >>= kt) Q) := by
  simp only [k0_part2_eq_skeleton]; unfold k0_part2_skel
  simp only [semSignalWord, semWaitWord, Prog.lift, Prog.bind_op, Prog.bind_ret, Prog.pure_eq_ret]
  iintro HS Hk
  iapply (sig_step m K c _ 1 1 2 ((devSig_eq c).2.1) rfl rfl) $$ HS; iintro HS
  iapply (sig_step m K c _ 2 2 3 ((devSig_eq c).2.2.1) rfl rfl) $$ HS; iintro HS
  iapply Hk; iexact HS

/-- Piece 3: signals to the peers 4 to 6 places on. -/
theorem wp_part3 (c : Dev nD) (v2 : BitVec 32) (v60 : BitVec 32) (v61 : BitVec 32) (v62 : BitVec 1) (v63 : BitVec 1) (v64 : BitVec 1) {α : Type} {Q : α → sProp 𝕄}
    {kt : (BitVec 32) → Prog (TpuEff nD τ sig (Elt F) Λ₀ .tc) α} :
    (sigSt m K c 3) ⊢ iprop((∀ r, (sigSt m K c 6) -∗ wpc c (kt r) Q)
      -∗ wpc c (k0_part3 (F := F) arg0 harg0 arg1 harg1 arg2 harg2 oM harg3 pM harg4 aM harg5 rM harg6 cc0_scratch3 cc0_scratch4 cc0_scratch5 cc0_scratch6 c v2 (SemArray.scalar (sig.barrier 0 rfl)) v60 v61 v62 v63 v64 >>= kt) Q) := by
  simp only [k0_part3_eq_skeleton]; unfold k0_part3_skel
  simp only [semSignalWord, semWaitWord, Prog.lift, Prog.bind_op, Prog.bind_ret, Prog.pure_eq_ret]
  iintro HS Hk
  iapply (sig_step m K c _ 3 3 4 ((devSig_eq c).2.2.2.1) rfl rfl) $$ HS; iintro HS
  iapply (sig_step m K c _ 4 4 5 ((devSig_eq c).2.2.2.2.1) rfl rfl) $$ HS; iintro HS
  iapply (sig_step m K c _ 5 5 6 ((devSig_eq c).2.2.2.2.2.1) rfl rfl) $$ HS; iintro HS
  iapply Hk; iexact HS

/-- Piece 4: signals to the peers 7 to 8 places on. -/
theorem wp_part4 (c : Dev nD) (v2 : BitVec 32) (v97 : BitVec 32) {α : Type} {Q : α → sProp 𝕄}
    {kt : (Σ' (v125 : BitVec 32) (v126 : BitVec 32) (v127 : BitVec 1) (v128 : BitVec 1), BitVec 1) → Prog (TpuEff nD τ sig (Elt F) Λ₀ .tc) α} :
    (sigSt m K c 6) ⊢ iprop((∀ r, (sigSt m K c 8) -∗ wpc c (kt r) Q)
      -∗ wpc c (k0_part4 (F := F) arg0 harg0 arg1 harg1 arg2 harg2 oM harg3 pM harg4 aM harg5 rM harg6 cc0_scratch3 cc0_scratch4 cc0_scratch5 cc0_scratch6 c v2 (SemArray.scalar (sig.barrier 0 rfl)) v97 >>= kt) Q) := by
  simp only [k0_part4_eq_skeleton]; unfold k0_part4_skel
  simp only [semSignalWord, semWaitWord, Prog.lift, Prog.bind_op, Prog.bind_ret, Prog.pure_eq_ret]
  iintro HS Hk
  iapply (sig_step m K c _ 6 6 7 ((devSig_eq c).2.2.2.2.2.2.1) rfl rfl) $$ HS; iintro HS
  iapply (sig_step m K c _ 7 7 8 ((devSig_eq c).2.2.2.2.2.2.2.1) rfl rfl) $$ HS; iintro HS
  iapply Hk; iexact HS

/-- Piece 5: signals to the peers 9 to 11 places on. -/
theorem wp_part5 (c : Dev nD) (v2 : BitVec 32) (v125 : BitVec 32) (v126 : BitVec 32) (v127 : BitVec 1) (v128 : BitVec 1) (v129 : BitVec 1) {α : Type} {Q : α → sProp 𝕄}
    {kt : (BitVec 32) → Prog (TpuEff nD τ sig (Elt F) Λ₀ .tc) α} :
    (sigSt m K c 8) ⊢ iprop((∀ r, (sigSt m K c 11) -∗ wpc c (kt r) Q)
      -∗ wpc c (k0_part5 (F := F) arg0 harg0 arg1 harg1 arg2 harg2 oM harg3 pM harg4 aM harg5 rM harg6 cc0_scratch3 cc0_scratch4 cc0_scratch5 cc0_scratch6 c v2 (SemArray.scalar (sig.barrier 0 rfl)) v125 v126 v127 v128 v129 >>= kt) Q) := by
  simp only [k0_part5_eq_skeleton]; unfold k0_part5_skel
  simp only [semSignalWord, semWaitWord, Prog.lift, Prog.bind_op, Prog.bind_ret, Prog.pure_eq_ret]
  iintro HS Hk
  iapply (sig_step m K c _ 8 8 9 ((devSig_eq c).2.2.2.2.2.2.2.2.1) rfl rfl) $$ HS; iintro HS
  iapply (sig_step m K c _ 9 9 10 ((devSig_eq c).2.2.2.2.2.2.2.2.2.1) rfl rfl) $$ HS; iintro HS
  iapply (sig_step m K c _ 10 10 11 ((devSig_eq c).2.2.2.2.2.2.2.2.2.2.1) rfl rfl) $$ HS; iintro HS
  iapply Hk; iexact HS

/-- Piece 6: signals to the peers 12 to 13 places on. -/
theorem wp_part6 (c : Dev nD) (v2 : BitVec 32) (v162 : BitVec 32) {α : Type} {Q : α → sProp 𝕄}
    {kt : (Σ' (v190 : BitVec 32) (v191 : BitVec 32) (v192 : BitVec 1) (v193 : BitVec 1), BitVec 1) → Prog (TpuEff nD τ sig (Elt F) Λ₀ .tc) α} :
    (sigSt m K c 11) ⊢ iprop((∀ r, (sigSt m K c 13) -∗ wpc c (kt r) Q)
      -∗ wpc c (k0_part6 (F := F) arg0 harg0 arg1 harg1 arg2 harg2 oM harg3 pM harg4 aM harg5 rM harg6 cc0_scratch3 cc0_scratch4 cc0_scratch5 cc0_scratch6 c v2 (SemArray.scalar (sig.barrier 0 rfl)) v162 >>= kt) Q) := by
  simp only [k0_part6_eq_skeleton]; unfold k0_part6_skel
  simp only [semSignalWord, semWaitWord, Prog.lift, Prog.bind_op, Prog.bind_ret, Prog.pure_eq_ret]
  iintro HS Hk
  iapply (sig_step m K c _ 11 11 12 ((devSig_eq c).2.2.2.2.2.2.2.2.2.2.2.1) rfl rfl) $$ HS; iintro HS
  iapply (sig_step m K c _ 12 12 13 ((devSig_eq c).2.2.2.2.2.2.2.2.2.2.2.2.1) rfl rfl) $$ HS; iintro HS
  iapply Hk; iexact HS

/-- Piece 7: the last two signals, and the wait for all fifteen peers. -/
theorem wp_part7 (c : Dev nD) (v2 : BitVec 32) (v190 : BitVec 32) (v191 : BitVec 32) (v192 : BitVec 1) (v193 : BitVec 1) (v194 : BitVec 1) {α : Type} {Q : α → sProp 𝕄}
    {kt : (BitVec 32) → Prog (TpuEff nD τ sig (Elt F) Λ₀ .tc) α} :
    (iprop(levAts L lv ∗ sigSt m K c 13 ∗ cred (tallyAt (barCell c) () 15) ∗ atPos ER (barCell c) 0 ∅ 0)) ⊢ iprop((∀ r, (ow c (owC 3 c 0 + owC 1 c 0) ∗ semVal (barCell c) 0 ∗ (bigSep Finset.univ fun e : Fin 15 => iprop(∃ f, slotPts (peer c e) e f)) ∗ (bigSep Finset.univ fun e : Fin 15 => iprop(∃ f, oPts (peer c e) c f))) -∗ wpc c (kt r) Q)
      -∗ wpc c (k0_part7 (F := F) arg0 harg0 arg1 harg1 arg2 harg2 oM harg3 pM harg4 aM harg5 rM harg6 cc0_scratch3 cc0_scratch4 cc0_scratch5 cc0_scratch6 c v2 (SemArray.scalar (sig.barrier 0 rfl)) v190 v191 v192 v193 v194 >>= kt) Q) := by
  simp only [k0_part7_eq_skeleton]; unfold k0_part7_skel
  simp only [semSignalWord, semWaitWord, Prog.lift, Prog.bind_op, Prog.bind_ret, Prog.pure_eq_ret]
  iintro ⟨#Hl, HS, Hc, Ha⟩ Hk
  iapply (sig_step m K c _ 13 13 14 ((devSig_eq c).2.2.2.2.2.2.2.2.2.2.2.2.2.1) rfl rfl) $$ HS; iintro HS
  iapply (sig_step m K c _ 14 14 15 ((devSig_eq c).2.2.2.2.2.2.2.2.2.2.2.2.2.2) rfl rfl) $$ HS; iintro HS
  iapply (bar_step m K c) $$ [HS Hc Ha]
  · isplitr; · iexact Hl
    isplitl [HS]; · iexact HS
    isplitl [Hc] <;> iassumption
  iintro HS
  iapply Hk; iexact HS

end Cert.FfnProof

end
-- ==== Proof.PartsB.lean ====
/-
The kernel's pieces 8 to 22: the first exchange. Every device copies to each peer that peer's rows of its product, and adds
up the fifteen blocks that land with its own.
-/
module

public import proofs.«01_k».proof.Proof.Ops

@[expose] public section

set_option maxRecDepth 16384

noncomputable section

namespace Cert.FfnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)
variable {arg0 : Memref sig .tc .vmem S768x768 .bf16} {harg0 : arg0.IsWhole} {arg1 : Memref sig .tc .vmem S768x1536 .bf16} {harg1 : arg1.IsWhole}
  {arg2 : Memref sig .tc .vmem S1536x768 .bf16} {harg2 : arg2.IsWhole} {harg3 : (oM : Memref sig .tc .vmem S768x768 .bf16).IsWhole}
  {harg4 : (pM : Memref sig .tc .vmem S768x768 .bf16).IsWhole} {harg5 : (aM : Memref sig .tc .vmem S48x768 .bf16).IsWhole} {harg6 : (rM : Memref sig .tc .vmem S15x48x768 .bf16).IsWhole}

/-- The sums in the order the kernel forms them, each from the one before. -/
def sum2 (c : Dev nD) : FVec F S48x768 .f32 := k0_pay2 (ownRows m c) (slotVal m c 0) (slotVal m c 1)
def sum3 (c : Dev nD) : FVec F S48x768 .f32 := k0_pay3 (sum2 m c) (slotVal m c 2) (slotVal m c 3)
def sum4 (c : Dev nD) : FVec F S48x768 .f32 := k0_pay4 (sum3 m c) (slotVal m c 4) (slotVal m c 5) (slotVal m c 6)
def sum5 (c : Dev nD) : FVec F S48x768 .f32 := k0_pay5 (sum4 m c) (slotVal m c 7) (slotVal m c 8)
def sum6 (c : Dev nD) : FVec F S48x768 .f32 := k0_pay6 (sum5 m c) (slotVal m c 9) (slotVal m c 10) (slotVal m c 11)
def sum7 (c : Dev nD) : FVec F S48x768 .bf16 := k0_pay7 (sum6 m c) (slotVal m c 12) (slotVal m c 13) (slotVal m c 14)

theorem accOf_eq (c : Dev nD) : k0_pay8 (sum7 m c) = accOf m c := rfl

/-- Piece 8: copies of the first exchange, to the peers 1 to 2 places on. -/
theorem wp_part8 (c : Dev nD) (v2 : BitVec 32) (v224 : BitVec 32) {α : Type} {Q : α → sProp 𝕄}
    {kt : (Σ' (v245 : BitVec 32) (v256 : BitVec 32), BitVec 32) → Prog (TpuEff nD τ sig (Elt F) Λ₀ .tc) α} :
    (rsSt m K c 0) ⊢ iprop((∀ r, (rsSt m K c 2) -∗ wpc c (kt r) Q)
      -∗ wpc c (k0_part8 (F := F) arg0 harg0 arg1 harg1 arg2 harg2 oM harg3 pM harg4 aM harg5 rM harg6 cc0_scratch3 cc0_scratch4 cc0_scratch5 cc0_scratch6 c v2 v224 >>= kt) Q) := by
  simp only [k0_part8_eq_skeleton]; unfold k0_part8_skel
  simp only [semSignalWord, semWaitWord, Prog.lift, Prog.bind_op, Prog.bind_ret, Prog.pure_eq_ret]
  iintro HS Hk
  iapply (rs_step m K c _ 0 0 1 ((devRs_eq c).1) rfl rfl (pSlice _ (off1_eq c 0)) rfl rfl rfl) $$ HS; iintro HS
  iapply (rs_step m K c _ 1 1 2 ((devRs_eq c).2.1) rfl rfl (pSlice _ (off1_eq c 1)) rfl rfl rfl) $$ HS; iintro HS
  iapply Hk; iexact HS

/-- Piece 9: copies of the first exchange, to the peers 3 to 3 places on. -/
theorem wp_part9 (c : Dev nD) (v2 : BitVec 32) (v256 : BitVec 32) (v258 : BitVec 32) {α : Type} {Q : α → sProp 𝕄}
    {kt : (Σ' (v266 : BitVec 32), BitVec 32) → Prog (TpuEff nD τ sig (Elt F) Λ₀ .tc) α} :
    (rsSt m K c 2) ⊢ iprop((∀ r, (rsSt m K c 3) -∗ wpc c (kt r) Q)
      -∗ wpc c (k0_part9 (F := F) arg0 harg0 arg1 harg1 arg2 harg2 oM harg3 pM harg4 aM harg5 rM harg6 cc0_scratch3 cc0_scratch4 cc0_scratch5 cc0_scratch6 c v2 v256 v258 >>= kt) Q) := by
  simp only [k0_part9_eq_skeleton]; unfold k0_part9_skel
  simp only [semSignalWord, semWaitWord, Prog.lift, Prog.bind_op, Prog.bind_ret, Prog.pure_eq_ret]
  iintro HS Hk
  iapply (rs_step m K c _ 2 2 3 ((devRs_eq c).2.2.1) rfl rfl (pSlice _ (off1_eq c 2)) rfl rfl rfl) $$ HS; iintro HS
  iapply Hk; iexact HS

/-- Piece 10: copies of the first exchange, to the peers 4 to 5 places on. -/
theorem wp_part10 (c : Dev nD) (v2 : BitVec 32) {α : Type} {Q : α → sProp 𝕄}
    {kt : (Σ' (v308 : BitVec 32) (v321 : BitVec 32) (v322 : BitVec 32) (v323 : BitVec 1) (v324 : BitVec 1), BitVec 32) → Prog (TpuEff nD τ sig (Elt F) Λ₀ .tc) α} :
    (rsSt m K c 3) ⊢ iprop((∀ r, (rsSt m K c 5) -∗ wpc c (kt r) Q)
      -∗ wpc c (k0_part10 (F := F) arg0 harg0 arg1 harg1 arg2 harg2 oM harg3 pM harg4 aM harg5 rM harg6 cc0_scratch3 cc0_scratch4 cc0_scratch5 cc0_scratch6 c v2 >>= kt) Q) := by
  simp only [k0_part10_eq_skeleton]; unfold k0_part10_skel
  simp only [semSignalWord, semWaitWord, Prog.lift, Prog.bind_op, Prog.bind_ret, Prog.pure_eq_ret]
  iintro HS Hk
  iapply (rs_step m K c _ 3 3 4 ((devRs_eq c).2.2.2.1) rfl rfl (pSlice _ (off1_eq c 3)) rfl rfl rfl) $$ HS; iintro HS
  iapply (rs_step m K c _ 4 4 5 ((devRs_eq c).2.2.2.2.1) rfl rfl (pSlice _ (off1_eq c 4)) rfl rfl rfl) $$ HS; iintro HS
  iapply Hk; iexact HS

/-- Piece 11: copies of the first exchange, to the peers 6 to 6 places on. -/
theorem wp_part11 (c : Dev nD) (v2 : BitVec 32) (v321 : BitVec 32) (v322 : BitVec 32) (v323 : BitVec 1) (v324 : BitVec 1) (c0_i32_230 : BitVec 32) {α : Type} {Q : α → sProp 𝕄}
    {kt : (Σ' (v329 : BitVec 32), BitVec 32) → Prog (TpuEff nD τ sig (Elt F) Λ₀ .tc) α} :
    (rsSt m K c 5) ⊢ iprop((∀ r, (rsSt m K c 6) -∗ wpc c (kt r) Q)
      -∗ wpc c (k0_part11 (F := F) arg0 harg0 arg1 harg1 arg2 harg2 oM harg3 pM harg4 aM harg5 rM harg6 cc0_scratch3 cc0_scratch4 cc0_scratch5 cc0_scratch6 c v2 v321 v322 v323 v324 c0_i32_230 >>= kt) Q) := by
  simp only [k0_part11_eq_skeleton]; unfold k0_part11_skel
  simp only [semSignalWord, semWaitWord, Prog.lift, Prog.bind_op, Prog.bind_ret, Prog.pure_eq_ret]
  iintro HS Hk
  iapply (rs_step m K c _ 5 5 6 ((devRs_eq c).2.2.2.2.2.1) rfl rfl (pSlice _ (off1_eq c 5)) rfl rfl rfl) $$ HS; iintro HS
  iapply Hk; iexact HS

/-- Piece 12: copies of the first exchange, to the peers 7 to 8 places on. -/
theorem wp_part12 (c : Dev nD) (v2 : BitVec 32) {α : Type} {Q : α → sProp 𝕄}
    {kt : (Σ' (v371 : BitVec 32) (v392 : BitVec 32), BitVec 32) → Prog (TpuEff nD τ sig (Elt F) Λ₀ .tc) α} :
    (rsSt m K c 6) ⊢ iprop((∀ r, (rsSt m K c 8) -∗ wpc c (kt r) Q)
      -∗ wpc c (k0_part12 (F := F) arg0 harg0 arg1 harg1 arg2 harg2 oM harg3 pM harg4 aM harg5 rM harg6 cc0_scratch3 cc0_scratch4 cc0_scratch5 cc0_scratch6 c v2 >>= kt) Q) := by
  simp only [k0_part12_eq_skeleton]; unfold k0_part12_skel
  simp only [semSignalWord, semWaitWord, Prog.lift, Prog.bind_op, Prog.bind_ret, Prog.pure_eq_ret]
  iintro HS Hk
  iapply (rs_step m K c _ 6 6 7 ((devRs_eq c).2.2.2.2.2.2.1) rfl rfl (pSlice _ (off1_eq c 6)) rfl rfl rfl) $$ HS; iintro HS
  iapply (rs_step m K c _ 7 7 8 ((devRs_eq c).2.2.2.2.2.2.2.1) rfl rfl (pSlice _ (off1_eq c 7)) rfl rfl rfl) $$ HS; iintro HS
  iapply Hk; iexact HS

/-- Piece 13: copies of the first exchange, to the peers 9 to 10 places on. -/
theorem wp_part13 (c : Dev nD) (v2 : BitVec 32) (v392 : BitVec 32) (c48_i32_279 : BitVec 32) {α : Type} {Q : α → sProp 𝕄}
    {kt : (Σ' (v413 : BitVec 32) (v424 : BitVec 32), BitVec 32) → Prog (TpuEff nD τ sig (Elt F) Λ₀ .tc) α} :
    (rsSt m K c 8) ⊢ iprop((∀ r, (rsSt m K c 10) -∗ wpc c (kt r) Q)
      -∗ wpc c (k0_part13 (F := F) arg0 harg0 arg1 harg1 arg2 harg2 oM harg3 pM harg4 aM harg5 rM harg6 cc0_scratch3 cc0_scratch4 cc0_scratch5 cc0_scratch6 c v2 v392 c48_i32_279 >>= kt) Q) := by
  simp only [k0_part13_eq_skeleton]; unfold k0_part13_skel
  simp only [semSignalWord, semWaitWord, Prog.lift, Prog.bind_op, Prog.bind_ret, Prog.pure_eq_ret]
  iintro HS Hk
  iapply (rs_step m K c _ 8 8 9 ((devRs_eq c).2.2.2.2.2.2.2.2.1) rfl rfl (pSlice _ (off1_eq c 8)) rfl rfl rfl) $$ HS; iintro HS
  iapply (rs_step m K c _ 9 9 10 ((devRs_eq c).2.2.2.2.2.2.2.2.2.1) rfl rfl (pSlice _ (off1_eq c 9)) rfl rfl rfl) $$ HS; iintro HS
  iapply Hk; iexact HS

/-- Piece 14: copies of the first exchange, to the peers 11 to 11 places on. -/
theorem wp_part14 (c : Dev nD) (v2 : BitVec 32) (v424 : BitVec 32) (c16_i32_305 : BitVec 32) {α : Type} {Q : α → sProp 𝕄}
    {kt : (Σ' (v434 : BitVec 32) (v455 : BitVec 32), BitVec 32) → Prog (TpuEff nD τ sig (Elt F) Λ₀ .tc) α} :
    (rsSt m K c 10) ⊢ iprop((∀ r, (rsSt m K c 11) -∗ wpc c (kt r) Q)
      -∗ wpc c (k0_part14 (F := F) arg0 harg0 arg1 harg1 arg2 harg2 oM harg3 pM harg4 aM harg5 rM harg6 cc0_scratch3 cc0_scratch4 cc0_scratch5 cc0_scratch6 c v2 v424 c16_i32_305 >>= kt) Q) := by
  simp only [k0_part14_eq_skeleton]; unfold k0_part14_skel
  simp only [semSignalWord, semWaitWord, Prog.lift, Prog.bind_op, Prog.bind_ret, Prog.pure_eq_ret]
  iintro HS Hk
  iapply (rs_step m K c _ 10 10 11 ((devRs_eq c).2.2.2.2.2.2.2.2.2.2.1) rfl rfl (pSlice _ (off1_eq c 10)) rfl rfl rfl) $$ HS; iintro HS
  iapply Hk; iexact HS

/-- Piece 15: copies of the first exchange, to the peers 12 to 13 places on. -/
theorem wp_part15 (c : Dev nD) (v2 : BitVec 32) (v457 : BitVec 32) {α : Type} {Q : α → sProp 𝕄}
    {kt : (Σ' (v476 : BitVec 32) (v489 : BitVec 32) (v490 : BitVec 32), BitVec 32) → Prog (TpuEff nD τ sig (Elt F) Λ₀ .tc) α} :
    (rsSt m K c 11) ⊢ iprop((∀ r, (rsSt m K c 13) -∗ wpc c (kt r) Q)
      -∗ wpc c (k0_part15 (F := F) arg0 harg0 arg1 harg1 arg2 harg2 oM harg3 pM harg4 aM harg5 rM harg6 cc0_scratch3 cc0_scratch4 cc0_scratch5 cc0_scratch6 c v2 v457 >>= kt) Q) := by
  simp only [k0_part15_eq_skeleton]; unfold k0_part15_skel
  simp only [semSignalWord, semWaitWord, Prog.lift, Prog.bind_op, Prog.bind_ret, Prog.pure_eq_ret]
  iintro HS Hk
  iapply (rs_step m K c _ 11 11 12 ((devRs_eq c).2.2.2.2.2.2.2.2.2.2.2.1) rfl rfl (pSlice _ (off1_eq c 11)) rfl rfl rfl) $$ HS; iintro HS
  iapply (rs_step m K c _ 12 12 13 ((devRs_eq c).2.2.2.2.2.2.2.2.2.2.2.2.1) rfl rfl (pSlice _ (off1_eq c 12)) rfl rfl rfl) $$ HS; iintro HS
  iapply Hk; iexact HS

/-- Piece 16: copies of the first exchange, to the peers 14 to 14 places on. -/
theorem wp_part16 (c : Dev nD) (v2 : BitVec 32) (v489 : BitVec 32) (v490 : BitVec 32) (c0_i32_356 : BitVec 32) {α : Type} {Q : α → sProp 𝕄}
    {kt : (Σ' (v497 : BitVec 32), BitVec 32) → Prog (TpuEff nD τ sig (Elt F) Λ₀ .tc) α} :
    (rsSt m K c 13) ⊢ iprop((∀ r, (rsSt m K c 14) -∗ wpc c (kt r) Q)
      -∗ wpc c (k0_part16 (F := F) arg0 harg0 arg1 harg1 arg2 harg2 oM harg3 pM harg4 aM harg5 rM harg6 cc0_scratch3 cc0_scratch4 cc0_scratch5 cc0_scratch6 c v2 v489 v490 c0_i32_356 >>= kt) Q) := by
  simp only [k0_part16_eq_skeleton]; unfold k0_part16_skel
  simp only [semSignalWord, semWaitWord, Prog.lift, Prog.bind_op, Prog.bind_ret, Prog.pure_eq_ret]
  iintro HS Hk
  iapply (rs_step m K c _ 13 13 14 ((devRs_eq c).2.2.2.2.2.2.2.2.2.2.2.2.2.1) rfl rfl (pSlice _ (off1_eq c 13)) rfl rfl rfl) $$ HS; iintro HS
  iapply Hk; iexact HS

theorem recvSt_intro (c : Dev nD) : iprop(levAts L lv ∗ records m K ∗ ow c (owC 3 c 0) ∗ waitSt m 1 c 0) ⊢ recvSt m K c 0 := by
  unfold recvSt; exact Entails.refl _

/-- Piece 17: the last of those copies; then the device's own rows, and the first two blocks to land. -/
theorem wp_part17 (c : Dev nD) (v2 : BitVec 32) (v224 : BitVec 32) (v245 : BitVec 32) {α : Type} {Q : α → sProp 𝕄}
    {kt : (FVec F S48x768 .f32) → Prog (TpuEff nD τ sig (Elt F) Λ₀ .tc) α} :
    (iprop(levAts L lv ∗ rsSt m K c 14 ∗ waitSt m 1 c 0 ∗ pPts c c (partialOf m c))) ⊢ iprop(((recvSt m K c 2 ∗ (bigSep Finset.univ (credD (F := F) 0 c)) ∗ pPts c c (partialOf m c)) -∗ wpc c (kt (sum2 m c)) Q)
      -∗ wpc c (k0_part17 (F := F) arg0 harg0 arg1 harg1 arg2 harg2 oM harg3 pM harg4 aM harg5 rM harg6 cc0_scratch3 cc0_scratch4 cc0_scratch5 cc0_scratch6 c v2 v224 v245 >>= kt) Q) := by
  simp only [k0_part17_eq_skeleton]; unfold k0_part17_skel
  simp only [semSignalWord, semWaitWord, Prog.lift, Prog.bind_op, Prog.bind_ret, Prog.pure_eq_ret]
  iintro ⟨#Hl, HS, Hw, Hp⟩ Hk
  iapply (rs_step m K c _ 14 14 15 ((devRs_eq c).2.2.2.2.2.2.2.2.2.2.2.2.2.2) rfl rfl (pSlice _ (off1_eq c 14)) rfl rfl rfl) $$ HS; iintro HS
  ihave HS' := (rsSt_last m K c) $$ HS
  icases HS' with ⟨#HR, HO, Hm⟩
  iapply (load_own m c (off2_eq c)) $$ Hp; iintro Hp
  ihave HS := (recvSt_intro m K c) $$ [HO Hw]
  · isplitr; · iexact Hl
    isplitr; · iexact HR
    isplitl [HO] <;> iassumption
  iapply (recv_step m K c 0 0 1 rfl rfl rfl) $$ HS; iintro HS
  iapply (recv_load m K c 0 1 (by decide) rfl) $$ HS; iintro HS
  iapply (recv_step m K c 1 1 2 rfl rfl rfl) $$ HS; iintro HS
  iapply (recv_load m K c 1 2 (by decide) rfl) $$ HS; iintro HS
  iapply Hk
  isplitl [HS]; · iexact HS
  isplitl [Hm] <;> iassumption

/-- Piece 18: the blocks from the devices 3 to 4 places before land and are added. -/
theorem wp_part18 (c : Dev nD) (v266 : BitVec 32) (v287 : BitVec 32) (v308 : BitVec 32) {α : Type} {Q : α → sProp 𝕄}
    {kt : (FVec F S48x768 .f32) → Prog (TpuEff nD τ sig (Elt F) Λ₀ .tc) α} :
    (recvSt m K c 2) ⊢ iprop(((recvSt m K c 4) -∗ wpc c (kt (sum3 m c)) Q)
      -∗ wpc c (k0_part18 (F := F) arg0 harg0 arg1 harg1 arg2 harg2 oM harg3 pM harg4 aM harg5 rM harg6 cc0_scratch3 cc0_scratch4 cc0_scratch5 cc0_scratch6 c v266 v287 v308 (sum2 m c) >>= kt) Q) := by
  simp only [k0_part18_eq_skeleton]; unfold k0_part18_skel
  simp only [semSignalWord, semWaitWord, Prog.lift, Prog.bind_op, Prog.bind_ret, Prog.pure_eq_ret]
  iintro HS Hk
  iapply (recv_step m K c 2 2 3 rfl rfl rfl) $$ HS; iintro HS
  iapply (recv_load m K c 2 3 (by decide) rfl) $$ HS; iintro HS
  iapply (recv_step m K c 3 3 4 rfl rfl rfl) $$ HS; iintro HS
  iapply (recv_load m K c 3 4 (by decide) rfl) $$ HS; iintro HS
  iapply Hk; iexact HS

/-- Piece 19: the blocks from the devices 5 to 7 places before land and are added. -/
theorem wp_part19 (c : Dev nD) (v329 : BitVec 32) (v350 : BitVec 32) (v371 : BitVec 32) {α : Type} {Q : α → sProp 𝕄}
    {kt : (Σ' (v609 : FVec F S48x768 .f32) (v610 : BitVec 32), BitVec 32) → Prog (TpuEff nD τ sig (Elt F) Λ₀ .tc) α} :
    (recvSt m K c 4) ⊢ iprop((∀ v w, (recvSt m K c 7) -∗ wpc c (kt ⟨sum4 m c, v, w⟩) Q)
      -∗ wpc c (k0_part19 (F := F) arg0 harg0 arg1 harg1 arg2 harg2 oM harg3 pM harg4 aM harg5 rM harg6 cc0_scratch3 cc0_scratch4 cc0_scratch5 cc0_scratch6 c v329 v350 v371 (sum3 m c) >>= kt) Q) := by
  simp only [k0_part19_eq_skeleton]; unfold k0_part19_skel
  simp only [semSignalWord, semWaitWord, Prog.lift, Prog.bind_op, Prog.bind_ret, Prog.pure_eq_ret]
  unfold sum4
  iintro HS Hk
  iapply (recv_step m K c 4 4 5 rfl rfl rfl) $$ HS; iintro HS
  iapply (recv_load m K c 4 5 (by decide) rfl) $$ HS; iintro HS
  iapply (recv_step m K c 5 5 6 rfl rfl rfl) $$ HS; iintro HS
  iapply (recv_load m K c 5 6 (by decide) rfl) $$ HS; iintro HS
  iapply (recv_step m K c 6 6 7 rfl rfl rfl) $$ HS; iintro HS
  iapply (recv_load m K c 6 7 (by decide) rfl) $$ HS; iintro HS
  iapply Hk; iexact HS

/-- Piece 20: the blocks from the devices 8 to 10 places before land and are added. -/
theorem wp_part20 (c : Dev nD) (v392 : BitVec 32) (v413 : BitVec 32) (v610 : BitVec 32) (c0_i32_461 : BitVec 32) {α : Type} {Q : α → sProp 𝕄}
    {kt : (Σ' (v631 : FVec F S48x768 .f32), Vec F S1x48x768 .bf16) → Prog (TpuEff nD τ sig (Elt F) Λ₀ .tc) α} :
    (recvSt m K c 7) ⊢ iprop(((recvSt m K c 10) -∗ wpc c (kt ⟨sum5 m c, slotVal m c 9⟩) Q)
      -∗ wpc c (k0_part20 (F := F) arg0 harg0 arg1 harg1 arg2 harg2 oM harg3 pM harg4 aM harg5 rM harg6 cc0_scratch3 cc0_scratch4 cc0_scratch5 cc0_scratch6 c v392 v413 (sum4 m c) v610 c0_i32_461 >>= kt) Q) := by
  simp only [k0_part20_eq_skeleton]; unfold k0_part20_skel
  simp only [semSignalWord, semWaitWord, Prog.lift, Prog.bind_op, Prog.bind_ret, Prog.pure_eq_ret]
  unfold sum5
  iintro HS Hk
  iapply (recv_step m K c 7 7 8 rfl rfl rfl) $$ HS; iintro HS
  iapply (recv_load m K c 7 8 (by decide) rfl) $$ HS; iintro HS
  iapply (recv_step m K c 8 8 9 rfl rfl rfl) $$ HS; iintro HS
  iapply (recv_load m K c 8 9 (by decide) rfl) $$ HS; iintro HS
  iapply (recv_step m K c 9 9 10 rfl rfl rfl) $$ HS; iintro HS
  iapply (recv_load m K c 9 10 (by decide) rfl) $$ HS; iintro HS
  iapply Hk; iexact HS

/-- Piece 21: the blocks from the devices 11 to 12 places before land and are added. -/
theorem wp_part21 (c : Dev nD) (v434 : BitVec 32) (v455 : BitVec 32) (v476 : BitVec 32) {α : Type} {Q : α → sProp 𝕄}
    {kt : (FVec F S48x768 .f32) → Prog (TpuEff nD τ sig (Elt F) Λ₀ .tc) α} :
    (recvSt m K c 10) ⊢ iprop(((recvSt m K c 12) -∗ wpc c (kt (sum6 m c)) Q)
      -∗ wpc c (k0_part21 (F := F) arg0 harg0 arg1 harg1 arg2 harg2 oM harg3 pM harg4 aM harg5 rM harg6 cc0_scratch3 cc0_scratch4 cc0_scratch5 cc0_scratch6 c v434 v455 v476 (sum5 m c) (slotVal m c 9) >>= kt) Q) := by
  simp only [k0_part21_eq_skeleton]; unfold k0_part21_skel
  simp only [semSignalWord, semWaitWord, Prog.lift, Prog.bind_op, Prog.bind_ret, Prog.pure_eq_ret]
  iintro HS Hk
  iapply (recv_step m K c 10 10 11 rfl rfl rfl) $$ HS; iintro HS
  iapply (recv_load m K c 10 11 (by decide) rfl) $$ HS; iintro HS
  iapply (recv_step m K c 11 11 12 rfl rfl rfl) $$ HS; iintro HS
  iapply (recv_load m K c 11 12 (by decide) rfl) $$ HS; iintro HS
  iapply Hk; iexact HS

/-- Piece 22: the blocks from the devices 13 to 15 places before land and are added. -/
theorem wp_part22 (c : Dev nD) (v497 : BitVec 32) (v518 : BitVec 32) {α : Type} {Q : α → sProp 𝕄}
    {kt : (FVec F S48x768 .bf16) → Prog (TpuEff nD τ sig (Elt F) Λ₀ .tc) α} :
    (recvSt m K c 12) ⊢ iprop(((recvSt m K c 15) -∗ wpc c (kt (sum7 m c)) Q)
      -∗ wpc c (k0_part22 (F := F) arg0 harg0 arg1 harg1 arg2 harg2 oM harg3 pM harg4 aM harg5 rM harg6 cc0_scratch3 cc0_scratch4 cc0_scratch5 cc0_scratch6 c v497 v518 (sum6 m c) >>= kt) Q) := by
  simp only [k0_part22_eq_skeleton]; unfold k0_part22_skel
  simp only [semSignalWord, semWaitWord, Prog.lift, Prog.bind_op, Prog.bind_ret, Prog.pure_eq_ret]
  iintro HS Hk
  iapply (recv_step m K c 12 12 13 rfl rfl rfl) $$ HS; iintro HS
  iapply (recv_load m K c 12 13 (by decide) rfl) $$ HS; iintro HS
  iapply (recv_step m K c 13 13 14 rfl rfl rfl) $$ HS; iintro HS
  iapply (recv_load m K c 13 14 (by decide) rfl) $$ HS; iintro HS
  iapply (recv_step m K c 14 14 15 rfl rfl rfl) $$ HS; iintro HS
  iapply (recv_load m K c 14 15 (by decide) rfl) $$ HS; iintro HS
  iapply Hk; iexact HS

end Cert.FfnProof

end
-- ==== Proof.PartsC.lean ====
/-
The kernel's pieces 23 to 38: the second exchange. Every device copies its sum into its rows of each peer's result; then
every copy of either exchange is waited for.
-/
module

public import proofs.«01_k».proof.Proof.PartsB

@[expose] public section

set_option maxRecDepth 16384

noncomputable section

namespace Cert.FfnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)
variable {arg0 : Memref sig .tc .vmem S768x768 .bf16} {harg0 : arg0.IsWhole} {arg1 : Memref sig .tc .vmem S768x1536 .bf16} {harg1 : arg1.IsWhole}
  {arg2 : Memref sig .tc .vmem S1536x768 .bf16} {harg2 : arg2.IsWhole} {harg3 : (oM : Memref sig .tc .vmem S768x768 .bf16).IsWhole}
  {harg4 : (pM : Memref sig .tc .vmem S768x768 .bf16).IsWhole} {harg5 : (aM : Memref sig .tc .vmem S48x768 .bf16).IsWhole} {harg6 : (rM : Memref sig .tc .vmem S15x48x768 .bf16).IsWhole}

theorem agT_all (c : Dev nD) : bigSep Finset.univ (agT m c)
    = iprop((bigSep Finset.univ fun e : Fin 15 => dutyTok ER (dCell 2 c e) 0 0) ∗ (bigSep Finset.univ fun e : Fin 15 => dutyTok ER (dCell 3 (peer c e) e) 0 0)
      ∗ (bigSep Finset.univ fun e : Fin 15 => aPts m c (Transfers.shareTok fullShare 15 e)) ∗ bigSep Finset.univ fun e : Fin 15 => iprop(∃ f, oPts (peer c e) c f)) := by
  unfold agT; rw [bigSep_sep', bigSep_sep', bigSep_sep']

theorem waitSt_zero (j : Fin 4) (c : Dev nD) : waitSt m j c 0
    = iprop(bigSep Finset.univ (credD (F := F) j c) ∗ bigSep Finset.univ fun e : Fin 15 => atPos ER (dCell j c e) 0 ∅ 0) := by
  unfold waitSt; rw [mix_zero]; unfold waitT; rw [bigSep_sep']

theorem agSt_last (c : Dev nD) : agSt m K c 15 ⊢ iprop(records m K ∗ ow c 0 ∗ bigSep Finset.univ (credD (F := F) 2 c)) := by
  unfold agSt; rw [owC_last, mix_last]

/-- The second exchange's state before its first copy. -/
theorem agSt_intro (c : Dev nD) : iprop(records m K ∗ ow c (owC 3 c 0) ∗ aPts m c fullShare
        ∗ (bigSep Finset.univ fun e : Fin 15 => dutyTok ER (dCell 2 c e) 0 0) ∗ (bigSep Finset.univ fun e : Fin 15 => dutyTok ER (dCell 3 (peer c e) e) 0 0)
        ∗ bigSep Finset.univ fun e : Fin 15 => iprop(∃ f, oPts (peer c e) c f))
      ⊢ iprop(agSt m K c 0 ∗ aPts m c (Transfers.shareDrop fullShare 15)) := by
  iintro ⟨HR, HO, Ha, Ht, Ht', Ho⟩
  ihave Ha' := (a_shares m c).1 $$ Ha
  icases Ha' with ⟨Hd, Hs⟩
  isplitr [Hd]
  · unfold agSt
    isplitl [HR]; · iexact HR
    isplitl [HO]; · iexact HO
    iapply (Entails.of_eq ((mix_zero (agT m c) (credD 2 c)).trans (agT_all m c)).symm)
    isplitl [Ht]; · iexact Ht
    isplitl [Ht']; · iexact Ht'
    isplitl [Hs] <;> iassumption
  · iexact Hd

/-- Piece 23: the sum is stored, and its first copy started. -/
theorem wp_part23 (c : Dev nD) (v2 : BitVec 32) {α : Type} {Q : α → sProp 𝕄}
    {kt : (Σ' (v712 : BitVec 32), BitVec 32) → Prog (TpuEff nD τ sig (Elt F) Λ₀ .tc) α} :
    (iprop(records m K ∗ ow c (owC 3 c 0) ∗ (∃ f, ((c : Thread nD τ).loc cc0_scratch1) ↦{fullShare} f)
        ∗ (bigSep Finset.univ fun e : Fin 15 => dutyTok ER (dCell 2 c e) 0 0) ∗ (bigSep Finset.univ fun e : Fin 15 => dutyTok ER (dCell 3 (peer c e) e) 0 0)
        ∗ bigSep Finset.univ fun e : Fin 15 => iprop(∃ f, oPts (peer c e) c f))) ⊢ iprop((∀ r, (agSt m K c 1 ∗ aPts m c (Transfers.shareDrop fullShare 15)) -∗ wpc c (kt r) Q)
      -∗ wpc c (k0_part23 (F := F) arg0 harg0 arg1 harg1 arg2 harg2 oM harg3 pM harg4 aM harg5 rM harg6 cc0_scratch3 cc0_scratch4 cc0_scratch5 cc0_scratch6 c v2 (sum7 m c) >>= kt) Q) := by
  simp only [k0_part23_eq_skeleton]; unfold k0_part23_skel
  simp only [semSignalWord, semWaitWord, Prog.lift, Prog.bind_op, Prog.bind_ret, Prog.pure_eq_ret]
  iintro ⟨#HR, HO, ⟨%f, Ha⟩, Ht, Ht', Ho⟩ Hk
  iapply (load_acc c f) $$ Ha; iintro Ha %v
  iapply (store_acc m c f _ (accOf_eq m c)) $$ Ha; iintro Ha
  ihave HS' := (agSt_intro m K c) $$ [HO Ha Ht Ht' Ho]
  · isplitr; · iexact HR
    isplitl [HO]; · iexact HO
    isplitl [Ha]; · iexact Ha
    isplitl [Ht]; · iexact Ht
    isplitl [Ht'] <;> iassumption
  icases HS' with ⟨HS, Hd⟩
  iapply (ag_step m K c _ 0 0 1 ((devAg_eq c).1) rfl rfl (oSlice _ (off3_eq c)) rfl rfl) $$ HS; iintro HS
  iapply Hk
  isplitl [HS] <;> iassumption

/-- Piece 24: copies of the second exchange, to the peers 2 to 3 places on. -/
theorem wp_part24 (c : Dev nD) (v2 : BitVec 32) (v731 : BitVec 32) {α : Type} {Q : α → sProp 𝕄}
    {kt : (Σ' (v750 : BitVec 32) (v761 : BitVec 32) (v762 : BitVec 32), BitVec 1) → Prog (TpuEff nD τ sig (Elt F) Λ₀ .tc) α} :
    (agSt m K c 1) ⊢ iprop((∀ r, (agSt m K c 3) -∗ wpc c (kt r) Q)
      -∗ wpc c (k0_part24 (F := F) arg0 harg0 arg1 harg1 arg2 harg2 oM harg3 pM harg4 aM harg5 rM harg6 cc0_scratch3 cc0_scratch4 cc0_scratch5 cc0_scratch6 c v2 v731 >>= kt) Q) := by
  simp only [k0_part24_eq_skeleton]; unfold k0_part24_skel
  simp only [semSignalWord, semWaitWord, Prog.lift, Prog.bind_op, Prog.bind_ret, Prog.pure_eq_ret]
  iintro HS Hk
  iapply (ag_step m K c _ 1 1 2 ((devAg_eq c).2.1) rfl rfl (oSlice _ (off3_eq c)) rfl rfl) $$ HS; iintro HS
  iapply (ag_step m K c _ 2 2 3 ((devAg_eq c).2.2.1) rfl rfl (oSlice _ (off3_eq c)) rfl rfl) $$ HS; iintro HS
  iapply Hk; iexact HS

/-- Piece 25: copies of the second exchange, to the peers 4 to 5 places on. -/
theorem wp_part25 (c : Dev nD) (v2 : BitVec 32) (v761 : BitVec 32) (v762 : BitVec 32) (v767 : BitVec 1) {α : Type} {Q : α → sProp 𝕄}
    {kt : (Σ' (v769 : BitVec 32) (v788 : BitVec 32) (v799 : BitVec 32) (v800 : BitVec 32), BitVec 1) → Prog (TpuEff nD τ sig (Elt F) Λ₀ .tc) α} :
    (agSt m K c 3) ⊢ iprop((∀ r, (agSt m K c 5) -∗ wpc c (kt r) Q)
      -∗ wpc c (k0_part25 (F := F) arg0 harg0 arg1 harg1 arg2 harg2 oM harg3 pM harg4 aM harg5 rM harg6 cc0_scratch3 cc0_scratch4 cc0_scratch5 cc0_scratch6 c v2 v761 v762 v767 >>= kt) Q) := by
  simp only [k0_part25_eq_skeleton]; unfold k0_part25_skel
  simp only [semSignalWord, semWaitWord, Prog.lift, Prog.bind_op, Prog.bind_ret, Prog.pure_eq_ret]
  iintro HS Hk
  iapply (ag_step m K c _ 3 3 4 ((devAg_eq c).2.2.2.1) rfl rfl (oSlice _ (off3_eq c)) rfl rfl) $$ HS; iintro HS
  iapply (ag_step m K c _ 4 4 5 ((devAg_eq c).2.2.2.2.1) rfl rfl (oSlice _ (off3_eq c)) rfl rfl) $$ HS; iintro HS
  iapply Hk; iexact HS

/-- Piece 26: copies of the second exchange, to the peers 6 to 7 places on. -/
theorem wp_part26 (c : Dev nD) (v2 : BitVec 32) (v799 : BitVec 32) (v800 : BitVec 32) (v801 : BitVec 1) {α : Type} {Q : α → sProp 𝕄}
    {kt : (Σ' (v807 : BitVec 32) (v826 : BitVec 32) (v835 : BitVec 32) (c16_i32_631 : BitVec 32), BitVec 32) → Prog (TpuEff nD τ sig (Elt F) Λ₀ .tc) α} :
    (agSt m K c 5) ⊢ iprop((∀ r, (agSt m K c 7) -∗ wpc c (kt r) Q)
      -∗ wpc c (k0_part26 (F := F) arg0 harg0 arg1 harg1 arg2 harg2 oM harg3 pM harg4 aM harg5 rM harg6 cc0_scratch3 cc0_scratch4 cc0_scratch5 cc0_scratch6 c v2 v799 v800 v801 >>= kt) Q) := by
  simp only [k0_part26_eq_skeleton]; unfold k0_part26_skel
  simp only [semSignalWord, semWaitWord, Prog.lift, Prog.bind_op, Prog.bind_ret, Prog.pure_eq_ret]
  iintro HS Hk
  iapply (ag_step m K c _ 5 5 6 ((devAg_eq c).2.2.2.2.2.1) rfl rfl (oSlice _ (off3_eq c)) rfl rfl) $$ HS; iintro HS
  iapply (ag_step m K c _ 6 6 7 ((devAg_eq c).2.2.2.2.2.2.1) rfl rfl (oSlice _ (off3_eq c)) rfl rfl) $$ HS; iintro HS
  iapply Hk; iexact HS

/-- Piece 27: copies of the second exchange, to the peers 8 to 8 places on. -/
theorem wp_part27 (c : Dev nD) (v2 : BitVec 32) (v835 : BitVec 32) (c16_i32_631 : BitVec 32) (c0_i32_632 : BitVec 32) {α : Type} {Q : α → sProp 𝕄}
    {kt : (Σ' (v845 : BitVec 32), BitVec 32) → Prog (TpuEff nD τ sig (Elt F) Λ₀ .tc) α} :
    (agSt m K c 7) ⊢ iprop((∀ r, (agSt m K c 8) -∗ wpc c (kt r) Q)
      -∗ wpc c (k0_part27 (F := F) arg0 harg0 arg1 harg1 arg2 harg2 oM harg3 pM harg4 aM harg5 rM harg6 cc0_scratch3 cc0_scratch4 cc0_scratch5 cc0_scratch6 c v2 v835 c16_i32_631 c0_i32_632 >>= kt) Q) := by
  simp only [k0_part27_eq_skeleton]; unfold k0_part27_skel
  simp only [semSignalWord, semWaitWord, Prog.lift, Prog.bind_op, Prog.bind_ret, Prog.pure_eq_ret]
  iintro HS Hk
  iapply (ag_step m K c _ 7 7 8 ((devAg_eq c).2.2.2.2.2.2.2.1) rfl rfl (oSlice _ (off3_eq c)) rfl rfl) $$ HS; iintro HS
  iapply Hk; iexact HS

/-- Piece 28: copies of the second exchange, to the peers 9 to 10 places on. -/
theorem wp_part28 (c : Dev nD) (v2 : BitVec 32) {α : Type} {Q : α → sProp 𝕄}
    {kt : (Σ' (v883 : BitVec 32) (v902 : BitVec 32) (v904 : BitVec 32), BitVec 32) → Prog (TpuEff nD τ sig (Elt F) Λ₀ .tc) α} :
    (agSt m K c 8) ⊢ iprop((∀ r, (agSt m K c 10) -∗ wpc c (kt r) Q)
      -∗ wpc c (k0_part28 (F := F) arg0 harg0 arg1 harg1 arg2 harg2 oM harg3 pM harg4 aM harg5 rM harg6 cc0_scratch3 cc0_scratch4 cc0_scratch5 cc0_scratch6 c v2 >>= kt) Q) := by
  simp only [k0_part28_eq_skeleton]; unfold k0_part28_skel
  simp only [semSignalWord, semWaitWord, Prog.lift, Prog.bind_op, Prog.bind_ret, Prog.pure_eq_ret]
  iintro HS Hk
  iapply (ag_step m K c _ 8 8 9 ((devAg_eq c).2.2.2.2.2.2.2.2.1) rfl rfl (oSlice _ (off3_eq c)) rfl rfl) $$ HS; iintro HS
  iapply (ag_step m K c _ 9 9 10 ((devAg_eq c).2.2.2.2.2.2.2.2.2.1) rfl rfl (oSlice _ (off3_eq c)) rfl rfl) $$ HS; iintro HS
  iapply Hk; iexact HS

/-- Piece 29: copies of the second exchange, to the peers 11 to 12 places on. -/
theorem wp_part29 (c : Dev nD) (v2 : BitVec 32) (v904 : BitVec 32) (c0_i32_680 : BitVec 32) {α : Type} {Q : α → sProp 𝕄}
    {kt : (Σ' (v921 : BitVec 32) (v940 : BitVec 32), BitVec 32) → Prog (TpuEff nD τ sig (Elt F) Λ₀ .tc) α} :
    (agSt m K c 10) ⊢ iprop((∀ r, (agSt m K c 12) -∗ wpc c (kt r) Q)
      -∗ wpc c (k0_part29 (F := F) arg0 harg0 arg1 harg1 arg2 harg2 oM harg3 pM harg4 aM harg5 rM harg6 cc0_scratch3 cc0_scratch4 cc0_scratch5 cc0_scratch6 c v2 v904 c0_i32_680 >>= kt) Q) := by
  simp only [k0_part29_eq_skeleton]; unfold k0_part29_skel
  simp only [semSignalWord, semWaitWord, Prog.lift, Prog.bind_op, Prog.bind_ret, Prog.pure_eq_ret]
  iintro HS Hk
  iapply (ag_step m K c _ 10 10 11 ((devAg_eq c).2.2.2.2.2.2.2.2.2.2.1) rfl rfl (oSlice _ (off3_eq c)) rfl rfl) $$ HS; iintro HS
  iapply (ag_step m K c _ 11 11 12 ((devAg_eq c).2.2.2.2.2.2.2.2.2.2.2.1) rfl rfl (oSlice _ (off3_eq c)) rfl rfl) $$ HS; iintro HS
  iapply Hk; iexact HS

/-- Piece 30: copies of the second exchange, to the peers 13 to 14 places on. -/
theorem wp_part30 (c : Dev nD) (v2 : BitVec 32) (v940 : BitVec 32) (c48_i32_702 : BitVec 32) {α : Type} {Q : α → sProp 𝕄}
    {kt : (Σ' (v959 : BitVec 32) (v970 : BitVec 32) (v971 : BitVec 32) (v972 : BitVec 1) (v973 : BitVec 1), BitVec 32) → Prog (TpuEff nD τ sig (Elt F) Λ₀ .tc) α} :
    (agSt m K c 12) ⊢ iprop((∀ r, (agSt m K c 14) -∗ wpc c (kt r) Q)
      -∗ wpc c (k0_part30 (F := F) arg0 harg0 arg1 harg1 arg2 harg2 oM harg3 pM harg4 aM harg5 rM harg6 cc0_scratch3 cc0_scratch4 cc0_scratch5 cc0_scratch6 c v2 v940 c48_i32_702 >>= kt) Q) := by
  simp only [k0_part30_eq_skeleton]; unfold k0_part30_skel
  simp only [semSignalWord, semWaitWord, Prog.lift, Prog.bind_op, Prog.bind_ret, Prog.pure_eq_ret]
  iintro HS Hk
  iapply (ag_step m K c _ 12 12 13 ((devAg_eq c).2.2.2.2.2.2.2.2.2.2.2.2.1) rfl rfl (oSlice _ (off3_eq c)) rfl rfl) $$ HS; iintro HS
  iapply (ag_step m K c _ 13 13 14 ((devAg_eq c).2.2.2.2.2.2.2.2.2.2.2.2.2.1) rfl rfl (oSlice _ (off3_eq c)) rfl rfl) $$ HS; iintro HS
  iapply Hk; iexact HS

/-- The state of the last waits before the first of them. -/
theorem finSt_intro (c : Dev nD) : iprop(levAts L lv ∗ agSt m K c 15 ∗ waitSt m 3 c 0 ∗ waitSt m 0 c 0 ∗ bigSep Finset.univ fun e : Fin 15 => atPos ER (dCell 2 c e) 0 ∅ 0)
      ⊢ finSt m K c 0 0 0 := by
  unfold finSt
  iintro ⟨Hl, HS, H3, H0, Hat⟩
  ihave HS' := (agSt_last m K c) $$ HS
  icases HS' with ⟨HR, HO, Hc⟩
  isplitl [Hl]; · iexact Hl
  isplitl [HR]; · iexact HR
  isplitl [HO]; · iexact HO
  isplitl [H3]; · iexact H3
  isplitl [H0]; · iexact H0
  iapply (Entails.of_eq (waitSt_zero m 2 c).symm)
  isplitl [Hc] <;> iassumption

/-- Piece 31: the last of those copies, the device's own rows of the result, and the first waits. -/
theorem wp_part31 (c : Dev nD) (v2 : BitVec 32) (v712 : BitVec 32) (v970 : BitVec 32) (v971 : BitVec 32) (v972 : BitVec 1) (v973 : BitVec 1) (c0_i32_727 : BitVec 32) {α : Type} {Q : α → sProp 𝕄}
    {kt : (BitVec 32) → Prog (TpuEff nD τ sig (Elt F) Λ₀ .tc) α} :
    (iprop(levAts L lv ∗ agSt m K c 14 ∗ aPts m c (Transfers.shareDrop fullShare 15) ∗ (∃ f, oPts c c f)
        ∗ waitSt m 3 c 0 ∗ waitSt m 0 c 0 ∗ bigSep Finset.univ fun e : Fin 15 => atPos ER (dCell 2 c e) 0 ∅ 0)) ⊢ iprop((∀ r, (finSt m K c 1 1 0 ∗ aPts m c (Transfers.shareDrop fullShare 15) ∗ oPts c c (outFull m)) -∗ wpc c (kt r) Q)
      -∗ wpc c (k0_part31 (F := F) arg0 harg0 arg1 harg1 arg2 harg2 oM harg3 pM harg4 aM harg5 rM harg6 cc0_scratch3 cc0_scratch4 cc0_scratch5 cc0_scratch6 c v2 v712 v970 v971 v972 v973 c0_i32_727 >>= kt) Q) := by
  simp only [k0_part31_eq_skeleton]; unfold k0_part31_skel
  simp only [semSignalWord, semWaitWord, Prog.lift, Prog.bind_op, Prog.bind_ret, Prog.pure_eq_ret]
  iintro ⟨#Hl, HS, Ha, ⟨%f, Ho⟩, H3, H0, Hat⟩ Hk
  iapply (ag_step m K c _ 14 14 15 ((devAg_eq c).2.2.2.2.2.2.2.2.2.2.2.2.2.2) rfl rfl (oSlice _ (off3_eq c)) rfl rfl) $$ HS; iintro HS
  iapply (load_sum m c _) $$ Ha; iintro Ha
  iapply (load_out c f (off2_eq c)) $$ Ho; iintro Ho %v
  iapply (store_out m c f (off2_eq c) _ rfl) $$ Ho; iintro Ho
  ihave HF := (finSt_intro m K c) $$ [HS H3 H0 Hat]
  · isplitr; · iexact Hl
    isplitl [HS]; · iexact HS
    isplitl [H3]; · iexact H3
    isplitl [H0] <;> iassumption
  iapply (fin_land m K c 0 0 1 0 0 rfl rfl rfl) $$ HF; iintro HF
  iapply (fin_sent m K c 0 1 0 1 0 rfl rfl rfl) $$ HF; iintro HF
  iapply Hk
  isplitl [HF]; · iexact HF
  isplitl [Ha] <;> iassumption

/-- Piece 32: waits. -/
theorem wp_part32 (c : Dev nD) (v731 : BitVec 32) (v750 : BitVec 32) {α : Type} {Q : α → sProp 𝕄}
    {kt : (PUnit) → Prog (TpuEff nD τ sig (Elt F) Λ₀ .tc) α} :
    (finSt m K c 1 1 0) ⊢ iprop((∀ r, (finSt m K c 3 3 2) -∗ wpc c (kt r) Q)
      -∗ wpc c (k0_part32 (F := F) arg0 harg0 arg1 harg1 arg2 harg2 oM harg3 pM harg4 aM harg5 rM harg6 cc0_scratch3 cc0_scratch4 cc0_scratch5 cc0_scratch6 c v731 v750 >>= kt) Q) := by
  simp only [k0_part32_eq_skeleton]; unfold k0_part32_skel
  simp only [semSignalWord, semWaitWord, Prog.lift, Prog.bind_op, Prog.bind_ret, Prog.pure_eq_ret]
  iintro HS Hk
  iapply (fin_shared m K c 0 1 1 0 1 rfl rfl rfl) $$ HS; iintro HS
  iapply (fin_land m K c 1 1 2 1 1 rfl rfl rfl) $$ HS; iintro HS
  iapply (fin_sent m K c 1 2 1 2 1 rfl rfl rfl) $$ HS; iintro HS
  iapply (fin_shared m K c 1 2 2 1 2 rfl rfl rfl) $$ HS; iintro HS
  iapply (fin_land m K c 2 2 3 2 2 rfl rfl rfl) $$ HS; iintro HS
  iapply (fin_sent m K c 2 3 2 3 2 rfl rfl rfl) $$ HS; iintro HS
  iapply Hk; iexact HS

/-- Piece 33: waits. -/
theorem wp_part33 (c : Dev nD) (v769 : BitVec 32) (v788 : BitVec 32) {α : Type} {Q : α → sProp 𝕄}
    {kt : (PUnit) → Prog (TpuEff nD τ sig (Elt F) Λ₀ .tc) α} :
    (finSt m K c 3 3 2) ⊢ iprop((∀ r, (finSt m K c 5 4 4) -∗ wpc c (kt r) Q)
      -∗ wpc c (k0_part33 (F := F) arg0 harg0 arg1 harg1 arg2 harg2 oM harg3 pM harg4 aM harg5 rM harg6 cc0_scratch3 cc0_scratch4 cc0_scratch5 cc0_scratch6 c v769 v788 >>= kt) Q) := by
  simp only [k0_part33_eq_skeleton]; unfold k0_part33_skel
  simp only [semSignalWord, semWaitWord, Prog.lift, Prog.bind_op, Prog.bind_ret, Prog.pure_eq_ret]
  iintro HS Hk
  iapply (fin_shared m K c 2 3 3 2 3 rfl rfl rfl) $$ HS; iintro HS
  iapply (fin_land m K c 3 3 4 3 3 rfl rfl rfl) $$ HS; iintro HS
  iapply (fin_sent m K c 3 4 3 4 3 rfl rfl rfl) $$ HS; iintro HS
  iapply (fin_shared m K c 3 4 4 3 4 rfl rfl rfl) $$ HS; iintro HS
  iapply (fin_land m K c 4 4 5 4 4 rfl rfl rfl) $$ HS; iintro HS
  iapply Hk; iexact HS

/-- Piece 34: waits. -/
theorem wp_part34 (c : Dev nD) (v807 : BitVec 32) (v826 : BitVec 32) {α : Type} {Q : α → sProp 𝕄}
    {kt : (PUnit) → Prog (TpuEff nD τ sig (Elt F) Λ₀ .tc) α} :
    (finSt m K c 5 4 4) ⊢ iprop((∀ r, (finSt m K c 7 6 6) -∗ wpc c (kt r) Q)
      -∗ wpc c (k0_part34 (F := F) arg0 harg0 arg1 harg1 arg2 harg2 oM harg3 pM harg4 aM harg5 rM harg6 cc0_scratch3 cc0_scratch4 cc0_scratch5 cc0_scratch6 c v807 v826 >>= kt) Q) := by
  simp only [k0_part34_eq_skeleton]; unfold k0_part34_skel
  simp only [semSignalWord, semWaitWord, Prog.lift, Prog.bind_op, Prog.bind_ret, Prog.pure_eq_ret]
  iintro HS Hk
  iapply (fin_sent m K c 4 5 4 5 4 rfl rfl rfl) $$ HS; iintro HS
  iapply (fin_shared m K c 4 5 5 4 5 rfl rfl rfl) $$ HS; iintro HS
  iapply (fin_land m K c 5 5 6 5 5 rfl rfl rfl) $$ HS; iintro HS
  iapply (fin_sent m K c 5 6 5 6 5 rfl rfl rfl) $$ HS; iintro HS
  iapply (fin_shared m K c 5 6 6 5 6 rfl rfl rfl) $$ HS; iintro HS
  iapply (fin_land m K c 6 6 7 6 6 rfl rfl rfl) $$ HS; iintro HS
  iapply Hk; iexact HS

/-- Piece 35: waits. -/
theorem wp_part35 (c : Dev nD) (v845 : BitVec 32) (v864 : BitVec 32) {α : Type} {Q : α → sProp 𝕄}
    {kt : (PUnit) → Prog (TpuEff nD τ sig (Elt F) Λ₀ .tc) α} :
    (finSt m K c 7 6 6) ⊢ iprop((∀ r, (finSt m K c 9 8 8) -∗ wpc c (kt r) Q)
      -∗ wpc c (k0_part35 (F := F) arg0 harg0 arg1 harg1 arg2 harg2 oM harg3 pM harg4 aM harg5 rM harg6 cc0_scratch3 cc0_scratch4 cc0_scratch5 cc0_scratch6 c v845 v864 >>= kt) Q) := by
  simp only [k0_part35_eq_skeleton]; unfold k0_part35_skel
  simp only [semSignalWord, semWaitWord, Prog.lift, Prog.bind_op, Prog.bind_ret, Prog.pure_eq_ret]
  iintro HS Hk
  iapply (fin_sent m K c 6 7 6 7 6 rfl rfl rfl) $$ HS; iintro HS
  iapply (fin_shared m K c 6 7 7 6 7 rfl rfl rfl) $$ HS; iintro HS
  iapply (fin_land m K c 7 7 8 7 7 rfl rfl rfl) $$ HS; iintro HS
  iapply (fin_sent m K c 7 8 7 8 7 rfl rfl rfl) $$ HS; iintro HS
  iapply (fin_shared m K c 7 8 8 7 8 rfl rfl rfl) $$ HS; iintro HS
  iapply (fin_land m K c 8 8 9 8 8 rfl rfl rfl) $$ HS; iintro HS
  iapply Hk; iexact HS

/-- Piece 36: waits. -/
theorem wp_part36 (c : Dev nD) (v883 : BitVec 32) (v902 : BitVec 32) {α : Type} {Q : α → sProp 𝕄}
    {kt : (PUnit) → Prog (TpuEff nD τ sig (Elt F) Λ₀ .tc) α} :
    (finSt m K c 9 8 8) ⊢ iprop((∀ r, (finSt m K c 11 10 10) -∗ wpc c (kt r) Q)
      -∗ wpc c (k0_part36 (F := F) arg0 harg0 arg1 harg1 arg2 harg2 oM harg3 pM harg4 aM harg5 rM harg6 cc0_scratch3 cc0_scratch4 cc0_scratch5 cc0_scratch6 c v883 v902 >>= kt) Q) := by
  simp only [k0_part36_eq_skeleton]; unfold k0_part36_skel
  simp only [semSignalWord, semWaitWord, Prog.lift, Prog.bind_op, Prog.bind_ret, Prog.pure_eq_ret]
  iintro HS Hk
  iapply (fin_sent m K c 8 9 8 9 8 rfl rfl rfl) $$ HS; iintro HS
  iapply (fin_shared m K c 8 9 9 8 9 rfl rfl rfl) $$ HS; iintro HS
  iapply (fin_land m K c 9 9 10 9 9 rfl rfl rfl) $$ HS; iintro HS
  iapply (fin_sent m K c 9 10 9 10 9 rfl rfl rfl) $$ HS; iintro HS
  iapply (fin_shared m K c 9 10 10 9 10 rfl rfl rfl) $$ HS; iintro HS
  iapply (fin_land m K c 10 10 11 10 10 rfl rfl rfl) $$ HS; iintro HS
  iapply Hk; iexact HS

/-- Piece 37: waits. -/
theorem wp_part37 (c : Dev nD) (v921 : BitVec 32) (v940 : BitVec 32) {α : Type} {Q : α → sProp 𝕄}
    {kt : (PUnit) → Prog (TpuEff nD τ sig (Elt F) Λ₀ .tc) α} :
    (finSt m K c 11 10 10) ⊢ iprop((∀ r, (finSt m K c 12 12 12) -∗ wpc c (kt r) Q)
      -∗ wpc c (k0_part37 (F := F) arg0 harg0 arg1 harg1 arg2 harg2 oM harg3 pM harg4 aM harg5 rM harg6 cc0_scratch3 cc0_scratch4 cc0_scratch5 cc0_scratch6 c v921 v940 >>= kt) Q) := by
  simp only [k0_part37_eq_skeleton]; unfold k0_part37_skel
  simp only [semSignalWord, semWaitWord, Prog.lift, Prog.bind_op, Prog.bind_ret, Prog.pure_eq_ret]
  iintro HS Hk
  iapply (fin_sent m K c 10 11 10 11 10 rfl rfl rfl) $$ HS; iintro HS
  iapply (fin_shared m K c 10 11 11 10 11 rfl rfl rfl) $$ HS; iintro HS
  iapply (fin_land m K c 11 11 12 11 11 rfl rfl rfl) $$ HS; iintro HS
  iapply (fin_sent m K c 11 12 11 12 11 rfl rfl rfl) $$ HS; iintro HS
  iapply (fin_shared m K c 11 12 12 11 12 rfl rfl rfl) $$ HS; iintro HS
  iapply Hk; iexact HS

/-- Piece 38: waits. -/
theorem wp_part38 (c : Dev nD) (v959 : BitVec 32) {α : Type} {Q : α → sProp 𝕄}
    {kt : (BitVec 32) → Prog (TpuEff nD τ sig (Elt F) Λ₀ .tc) α} :
    (finSt m K c 12 12 12) ⊢ iprop((∀ r, (finSt m K c 14 14 14) -∗ wpc c (kt r) Q)
      -∗ wpc c (k0_part38 (F := F) arg0 harg0 arg1 harg1 arg2 harg2 oM harg3 pM harg4 aM harg5 rM harg6 cc0_scratch3 cc0_scratch4 cc0_scratch5 cc0_scratch6 c v959 >>= kt) Q) := by
  simp only [k0_part38_eq_skeleton]; unfold k0_part38_skel
  simp only [semSignalWord, semWaitWord, Prog.lift, Prog.bind_op, Prog.bind_ret, Prog.pure_eq_ret]
  iintro HS Hk
  iapply (fin_land m K c 12 12 13 12 12 rfl rfl rfl) $$ HS; iintro HS
  iapply (fin_sent m K c 12 13 12 13 12 rfl rfl rfl) $$ HS; iintro HS
  iapply (fin_shared m K c 12 13 13 12 13 rfl rfl rfl) $$ HS; iintro HS
  iapply (fin_land m K c 13 13 14 13 13 rfl rfl rfl) $$ HS; iintro HS
  iapply (fin_sent m K c 13 14 13 14 13 rfl rfl rfl) $$ HS; iintro HS
  iapply (fin_shared m K c 13 14 14 13 14 rfl rfl rfl) $$ HS; iintro HS
  iapply Hk; iexact HS

end Cert.FfnProof

end
-- ==== Proof.Chain.lean ====
/-
One device's whole kernel: its thirty-nine pieces in order, from what the device is given at the start to what it
returns at the end.
-/
module

public import proofs.«01_k».proof.Proof.PartsA
public import proofs.«01_k».proof.Proof.PartsC

@[expose] public section

set_option maxRecDepth 16384

noncomputable section

namespace Cert.FfnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## Between the loops -/

/-- Handing something over at an unnamed value, for every step. -/
theorem each_ex {β : Type} (Φ : Fin 15 → β → sProp 𝕄) (f : β) :
    (bigSep Finset.univ fun e => Φ e f) ⊢ bigSep Finset.univ fun e => iprop(∃ g, Φ e g) :=
  bigSep_mono fun e _ => by
    show Φ e f ⊢ iprop(∃ g, Φ e g)
    iintro H; iexists f; iexact H

/-- The steps counted from the other end. -/
theorem by_rev (Φ : Fin 15 → sProp 𝕄) : (bigSep Finset.univ fun e : Fin 15 => Φ e.rev) = bigSep Finset.univ Φ :=
  (bigSep_univ_equiv Fin.revPerm Φ).symm

/-- Before the first signal: the landing buffer by slots and the result's buffer by rows are what the signals hand over. -/
theorem sig_intro (c : Dev nD) : iprop(records m K ∗ ow c (O₀ c) ∗ (bigSep Finset.univ fun e : Fin 15 => dutyTok ER (barCell (peer c e)) 0 e)
        ∗ (∃ f, ((c : Thread nD τ).loc cc0_scratch2) ↦{fullShare} f) ∗ ∃ f, ((c : Thread nD τ).loc cc0_stg3_0) ↦{fullShare} f)
      ⊢ iprop(sigSt m K c 0 ∗ ∃ f, oPts c c f) := by
  iintro ⟨HR, HO, Ht, ⟨%f, Hr⟩, ⟨%g, Ho⟩⟩
  ihave Hr' := (Entails.of_eq (r_slots c f)) $$ Hr
  ihave Hr'' := (each_ex (fun e => slotPts c e) f) $$ Hr'
  ihave Hr3 := (Entails.of_eq (by_rev (fun e => iprop(∃ f, slotPts (F := F) c e f))).symm) $$ Hr''
  ihave Ho' := (Entails.of_eq (o_rows c g)) $$ Ho
  icases Ho' with ⟨Hoc, Hop⟩
  ihave Hop' := (each_ex (fun e => oPts c (peer c e)) g) $$ Hop
  isplitr [Hoc]
  · unfold sigSt
    rw [mix_zero]; unfold sigT; rw [bigSep_sep', bigSep_sep']
    isplitl [HR]; · iexact HR
    isplitl [HO]; · iexact HO
    isplitl [Ht]; · iexact Ht
    isplitl [Hr3] <;> iassumption
  · iexists g; iexact Hoc

/-- Before the first exchange: the partial product by rows, the peers' slots and the tokens are what its copies need. -/
theorem rs_intro (c : Dev nD) : iprop(records m K ∗ ow c (owC 3 c 0 + owC 1 c 0)
        ∗ (bigSep Finset.univ fun e : Fin 15 => dutyTok ER (dCell 0 c e) 0 0) ∗ (bigSep Finset.univ fun e : Fin 15 => dutyTok ER (dCell 1 (peer c e) e) 0 0)
        ∗ (((c : Thread nD τ).loc cc0_scratch0) ↦{fullShare} partialOf m c)
        ∗ bigSep Finset.univ fun e : Fin 15 => iprop(∃ f, slotPts (peer c e) e f))
      ⊢ iprop(rsSt m K c 0 ∗ pPts c c (partialOf m c)) := by
  iintro ⟨HR, HO, Ht, Ht', Hp, Hs⟩
  ihave Hp' := (Entails.of_eq (p_rows c (partialOf m c))) $$ Hp
  icases Hp' with ⟨Hpc, Hpp⟩
  isplitr [Hpc]
  · unfold rsSt
    rw [mix_zero]; unfold rsT; rw [bigSep_sep', bigSep_sep', bigSep_sep']
    isplitl [HR]; · iexact HR
    isplitl [HO]; · iexact HO
    isplitl [Ht]; · iexact Ht
    isplitl [Ht']; · iexact Ht'
    isplitl [Hpp] <;> iassumption
  · iexact Hpc

/-- After the last wait of a loop: what its copies handed over, and their semaphores at zero. -/
theorem waitSt_last (j : Fin 4) (c : Dev nD) : waitSt m j c 15
    = iprop((bigSep Finset.univ fun e : Fin 15 => dPay m j c e) ∗ bigSep Finset.univ fun e : Fin 15 => semVal (dCell j c e) 0) := by
  unfold waitSt; rw [mix_last]; unfold waitD; rw [bigSep_sep']

/-- After the last wait: every buffer whole again, every semaphore at zero, nothing owed. -/
theorem fin_out (c : Dev nD) : iprop(finSt m K c 15 15 15 ∗ aPts m c (Transfers.shareDrop fullShare 15) ∗ oPts c c (outFull m)
        ∗ pPts c c (partialOf m c) ∗ waitSt m 1 c 15)
      ⊢ iprop(ow c 0 ∗ (((c : Thread nD τ).loc cc0_scratch0) ↦{fullShare} partialOf m c) ∗ (((c : Thread nD τ).loc cc0_scratch1) ↦{fullShare} accOf m c)
        ∗ (((c : Thread nD τ).loc cc0_scratch2) ↦{fullShare} landFull m c) ∗ (((c : Thread nD τ).loc cc0_stg3_0) ↦{fullShare} outFull m)
        ∗ (bigSep Finset.univ fun e : Fin 15 => semVal (dCell 0 c e) 0) ∗ (bigSep Finset.univ fun e : Fin 15 => semVal (dCell 1 c e) 0)
        ∗ (bigSep Finset.univ fun e : Fin 15 => semVal (dCell 2 c e) 0) ∗ bigSep Finset.univ fun e : Fin 15 => semVal (dCell 3 c e) 0) := by
  unfold finSt
  rw [waitSt_last, waitSt_last, waitSt_last, waitSt_last]
  iintro ⟨⟨-, -, HO, ⟨H3, Hz3⟩, ⟨H0, Hz0⟩, ⟨H2, Hz2⟩⟩, Ha, Hoc, Hpc, ⟨H1, Hz1⟩⟩
  have h3 : (bigSep Finset.univ fun e : Fin 15 => dPay m 3 c e) = bigSep Finset.univ fun e : Fin 15 => oPts c (peer c e) (outFull m) := by
    rw [← by_rev fun e => oPts c (peer c e) (outFull m)]
    exact bigSep_congr fun e _ => by unfold dPay; rw [peer_rev]
  ihave H3' := (Entails.of_eq h3) $$ H3
  isplitl [HO]; · iexact HO
  isplitl [H0 Hpc]
  · iapply (Entails.of_eq (p_rows c (partialOf m c)).symm)
    isplitl [Hpc]; · iexact Hpc
    iexact H0
  isplitl [H2 Ha]
  · iapply (show _ ⊢ ((((c : Thread nD τ).loc cc0_scratch1) ↦{fullShare} accOf m c) : sProp 𝕄) from (a_shares m c).2)
    isplitl [Ha]; · iexact Ha
    iexact H2
  isplitl [H1]
  · iapply (Entails.of_eq (r_slots c (landFull m c)).symm)
    iexact H1
  isplitl [H3' Hoc]
  · iapply (Entails.of_eq (o_rows c (outFull m)).symm)
    isplitl [Hoc] <;> iassumption
  isplitl [Hz0]; · iexact Hz0
  isplitl [Hz1]; · iexact Hz1
  isplitl [Hz2] <;> iassumption

/-! ## The whole -/

/-- The tokens of the duties device `c` pays: the signals to its peers, both ends of its copies. -/
def payToks (c : Dev nD) : sProp 𝕄 :=
  iprop((bigSep Finset.univ fun e : Fin 15 => dutyTok ER (barCell (peer c e)) 0 e)
    ∗ (bigSep Finset.univ fun e : Fin 15 => dutyTok ER (dCell 0 c e) 0 0) ∗ (bigSep Finset.univ fun e : Fin 15 => dutyTok ER (dCell 1 (peer c e) e) 0 0)
    ∗ (bigSep Finset.univ fun e : Fin 15 => dutyTok ER (dCell 2 c e) 0 0) ∗ (bigSep Finset.univ fun e : Fin 15 => dutyTok ER (dCell 3 (peer c e) e) 0 0))
/-- Its positions at its own cells. -/
def poss (c : Dev nD) : sProp 𝕄 :=
  iprop(atPos ER (barCell c) 0 ∅ 0 ∗ (bigSep Finset.univ fun e : Fin 15 => atPos ER (dCell 0 c e) 0 ∅ 0) ∗ (bigSep Finset.univ fun e : Fin 15 => atPos ER (dCell 1 c e) 0 ∅ 0)
    ∗ (bigSep Finset.univ fun e : Fin 15 => atPos ER (dCell 2 c e) 0 ∅ 0) ∗ (bigSep Finset.univ fun e : Fin 15 => atPos ER (dCell 3 c e) 0 ∅ 0))
/-- The credits it starts with: its peers' signals and their copies to it. -/
def crs (c : Dev nD) : sProp 𝕄 :=
  iprop(cred (tallyAt (barCell c) () 15) ∗ (bigSep Finset.univ (credD (F := F) 1 c)) ∗ (bigSep Finset.univ (credD (F := F) 3 c)))
/-- Its own semaphores at zero. -/
def zeros (c : Dev nD) : sProp 𝕄 :=
  iprop(semVal (barCell c) 0
    ∗ (bigSep Finset.univ fun e : Fin 15 => semVal (dCell 0 c e) 0) ∗ (bigSep Finset.univ fun e : Fin 15 => semVal (dCell 1 c e) 0)
    ∗ (bigSep Finset.univ fun e : Fin 15 => semVal (dCell 2 c e) 0) ∗ bigSep Finset.univ fun e : Fin 15 => semVal (dCell 3 c e) 0)
/-- Its three other buffers, at whatever they hold. -/
def scratch (c : Dev nD) : sProp 𝕄 :=
  iprop((∃ f, ((c : Thread nD τ).loc cc0_scratch0) ↦{fullShare} f) ∗ (∃ f, ((c : Thread nD τ).loc cc0_scratch1) ↦{fullShare} f) ∗ ∃ f, ((c : Thread nD τ).loc cc0_scratch2) ↦{fullShare} f)

/-- What device `c`'s kernel starts from: every cell's invariant, the levels, what it owes, the tokens of the duties it
    pays, its positions at its own cells, its credits, its operands and its result's buffer, its other buffers. -/
def entry (c : Dev nD) : sProp 𝕄 :=
  iprop(records m K ∗ levAts L lv ∗ ow c (O₀ c) ∗ payToks c ∗ poss c ∗ crs c
    ∗ ((((c : Thread nD τ).loc cc0_stg0_0) ↦{fullShare} xStg m c) ∗ (((c : Thread nD τ).loc cc0_stg1_0) ↦{fullShare} w1Stg m c) ∗ (((c : Thread nD τ).loc cc0_stg2_0) ↦{fullShare} w2Stg m c)
      ∗ ∃ f, ((c : Thread nD τ).loc cc0_stg3_0) ↦{fullShare} f)
    ∗ scratch c)

/-- What it ends with: nothing owed, its semaphores at zero, its operands as they were, the result in the result's
    staging buffer, its other buffers. -/
def exit (c : Dev nD) : sProp 𝕄 :=
  iprop(ow c 0 ∗ zeros c
    ∗ ((((c : Thread nD τ).loc cc0_stg0_0) ↦{fullShare} xStg m c) ∗ (((c : Thread nD τ).loc cc0_stg1_0) ↦{fullShare} w1Stg m c) ∗ (((c : Thread nD τ).loc cc0_stg2_0) ↦{fullShare} w2Stg m c)
      ∗ (((c : Thread nD τ).loc cc0_stg3_0) ↦{fullShare} outFull m))
    ∗ scratch c)

set_option maxHeartbeats 4000000 in
/-- The kernel on device `c`. -/
theorem run_body (c : Dev nD) (Kt : PUnit → sProp 𝕄) :
    iprop(entry m K c ∗ (exit m c -∗ Kt ⟨⟩))
      ⊢ wpc c (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6) Kt := by
  simp only [cc0_body_eq_skeleton]; unfold cc0_body_skel
  unfold wpc; rw [wp_bind]
  simp only [k0_part39_eq_skeleton]; unfold k0_part39_skel
  unfold entry payToks poss crs scratch
  iintro ⟨⟨#HR, #Hl, HO, ⟨HtB, Ht0, Ht1, Ht2, Ht3⟩, ⟨HaB, Ha0, Ha1, Ha2, Ha3⟩, ⟨HcB, Hc1, Hc3⟩, ⟨Hx, Hw1, Hw2, Hout⟩, Hp, Ha, Hr⟩, Hk⟩
  ihave H := (sig_intro m K c) $$ [HO HtB Hr Hout]
  · isplitr; · iexact HR
    isplitl [HO]; · iexact HO
    isplitl [HtB]; · iexact HtB
    isplitl [Hr] <;> iassumption
  icases H with ⟨HS, Hoc⟩
  iapply (wp_part1 m K c) $$ [HS Hx Hw1 Hw2 Hp]
  · isplitl [HS]; · iexact HS
    isplitl [Hx]; · iexact Hx
    isplitl [Hw1]; · iexact Hw1
    isplitl [Hw2] <;> iassumption
  iintro %v2 %v32 ⟨HS, Hx, Hw1, Hw2, Hp⟩
  try dsimp only
  iapply (wp_part2 m K c _ _) $$ HS
  iintro %r HS
  obtain ⟨w2_0, w2_1, w2_2, w2_3, w2_4⟩ := r
  try dsimp only
  iapply (wp_part3 m K c _ _ _ _ _ _) $$ HS
  iintro %r HS
  try dsimp only
  iapply (wp_part4 m K c _ _) $$ HS
  iintro %r HS
  obtain ⟨w4_0, w4_1, w4_2, w4_3, w4_4⟩ := r
  try dsimp only
  iapply (wp_part5 m K c _ _ _ _ _ _) $$ HS
  iintro %r HS
  try dsimp only
  iapply (wp_part6 m K c _ _) $$ HS
  iintro %r HS
  obtain ⟨w6_0, w6_1, w6_2, w6_3, w6_4⟩ := r
  try dsimp only
  iapply (wp_part7 m K c _ _ _ _ _ _) $$ [HS HcB HaB]
  · isplitr; · iexact Hl
    isplitl [HS]; · iexact HS
    isplitl [HcB] <;> iassumption
  iintro %r ⟨HO, HzB, Hs, Hop⟩
  try dsimp only
  ihave H := (rs_intro m K c) $$ [HO Ht0 Ht1 Hp Hs]
  · isplitr; · iexact HR
    isplitl [HO]; · iexact HO
    isplitl [Ht0]; · iexact Ht0
    isplitl [Ht1]; · iexact Ht1
    isplitl [Hp] <;> iassumption
  icases H with ⟨HS, Hpc⟩
  iapply (wp_part8 m K c _ _) $$ HS
  iintro %r HS
  obtain ⟨w8_0, w8_1, w8_2⟩ := r
  try dsimp only
  iapply (wp_part9 m K c _ _ _) $$ HS
  iintro %r HS
  obtain ⟨w9_0, w9_1⟩ := r
  try dsimp only
  iapply (wp_part10 m K c _) $$ HS
  iintro %r HS
  obtain ⟨w10_0, w10_1, w10_2, w10_3, w10_4, w10_5⟩ := r
  try dsimp only
  iapply (wp_part11 m K c _ _ _ _ _ _) $$ HS
  iintro %r HS
  obtain ⟨w11_0, w11_1⟩ := r
  try dsimp only
  iapply (wp_part12 m K c _) $$ HS
  iintro %r HS
  obtain ⟨w12_0, w12_1, w12_2⟩ := r
  try dsimp only
  iapply (wp_part13 m K c _ _ _) $$ HS
  iintro %r HS
  obtain ⟨w13_0, w13_1, w13_2⟩ := r
  try dsimp only
  iapply (wp_part14 m K c _ _ _) $$ HS
  iintro %r HS
  obtain ⟨w14_0, w14_1, w14_2⟩ := r
  try dsimp only
  iapply (wp_part15 m K c _ _) $$ HS
  iintro %r HS
  obtain ⟨w15_0, w15_1, w15_2, w15_3⟩ := r
  try dsimp only
  iapply (wp_part16 m K c _ _ _ _) $$ HS
  iintro %r HS
  obtain ⟨w16_0, w16_1⟩ := r
  try dsimp only
  ihave Hw := (Entails.of_eq (waitSt_zero m 1 c).symm) $$ [Hc1 Ha1]
  · isplitl [Hc1] <;> iassumption
  iapply (wp_part17 m K c _ _ _) $$ [HS Hw Hpc]
  · isplitr; · iexact Hl
    isplitl [HS]; · iexact HS
    isplitl [Hw] <;> iassumption
  iintro ⟨HS, Hc0, Hpc⟩
  try dsimp only
  iapply (wp_part18 m K c _ _ _) $$ HS
  iintro HS
  try dsimp only
  iapply (wp_part19 m K c _ _ _) $$ HS
  iintro %v %w HS
  try dsimp only
  iapply (wp_part20 m K c _ _ _ _) $$ HS
  iintro HS
  try dsimp only
  iapply (wp_part21 m K c _ _ _) $$ HS
  iintro HS
  try dsimp only
  iapply (wp_part22 m K c _ _) $$ HS
  iintro HS
  try dsimp only
  unfold recvSt
  icases HS with ⟨-, -, HO, Hw1'⟩
  iapply (wp_part23 m K c _) $$ [HO Ha Ht2 Ht3 Hop]
  · isplitr; · iexact HR
    isplitl [HO]; · iexact HO
    isplitl [Ha]; · iexact Ha
    isplitl [Ht2]; · iexact Ht2
    isplitl [Ht3] <;> iassumption
  iintro %r ⟨HS, Had⟩
  obtain ⟨w23_0, w23_1⟩ := r
  try dsimp only
  iapply (wp_part24 m K c _ _) $$ HS
  iintro %r HS
  obtain ⟨w24_0, w24_1, w24_2, w24_3⟩ := r
  try dsimp only
  iapply (wp_part25 m K c _ _ _ _) $$ HS
  iintro %r HS
  obtain ⟨w25_0, w25_1, w25_2, w25_3, w25_4⟩ := r
  try dsimp only
  iapply (wp_part26 m K c _ _ _ _) $$ HS
  iintro %r HS
  obtain ⟨w26_0, w26_1, w26_2, w26_3, w26_4⟩ := r
  try dsimp only
  iapply (wp_part27 m K c _ _ _ _) $$ HS
  iintro %r HS
  obtain ⟨w27_0, w27_1⟩ := r
  try dsimp only
  iapply (wp_part28 m K c _) $$ HS
  iintro %r HS
  obtain ⟨w28_0, w28_1, w28_2, w28_3⟩ := r
  try dsimp only
  iapply (wp_part29 m K c _ _ _) $$ HS
  iintro %r HS
  obtain ⟨w29_0, w29_1, w29_2⟩ := r
  try dsimp only
  iapply (wp_part30 m K c _ _ _) $$ HS
  iintro %r HS
  obtain ⟨w30_0, w30_1, w30_2, w30_3, w30_4, w30_5⟩ := r
  try dsimp only
  ihave Hw3 := (Entails.of_eq (waitSt_zero m 3 c).symm) $$ [Hc3 Ha3]
  · isplitl [Hc3] <;> iassumption
  ihave Hw0 := (Entails.of_eq (waitSt_zero m 0 c).symm) $$ [Hc0 Ha0]
  · isplitl [Hc0] <;> iassumption
  iapply (wp_part31 m K c _ _ _ _ _ _ _) $$ [HS Had Hoc Hw3 Hw0 Ha2]
  · isplitr; · iexact Hl
    isplitl [HS]; · iexact HS
    isplitl [Had]; · iexact Had
    isplitl [Hoc]; · iexact Hoc
    isplitl [Hw3]; · iexact Hw3
    isplitl [Hw0] <;> iassumption
  iintro %r ⟨HS, Had, Hoc⟩
  try dsimp only
  iapply (wp_part32 m K c _ _) $$ HS
  iintro %r HS
  try dsimp only
  iapply (wp_part33 m K c _ _) $$ HS
  iintro %r HS
  try dsimp only
  iapply (wp_part34 m K c _ _) $$ HS
  iintro %r HS
  try dsimp only
  iapply (wp_part35 m K c _ _) $$ HS
  iintro %r HS
  try dsimp only
  iapply (wp_part36 m K c _ _) $$ HS
  iintro %r HS
  try dsimp only
  iapply (wp_part37 m K c _ _) $$ HS
  iintro %r HS
  try dsimp only
  iapply (wp_part38 m K c _) $$ HS
  iintro %r HS
  try dsimp only
  simp only [Prog.lift, Prog.bind_op, Prog.bind_ret, Prog.pure_eq_ret]
  iapply (fin_land m K c 14 14 15 14 14 rfl rfl rfl) $$ HS; iintro HS
  iapply (fin_sent m K c 14 15 14 15 14 rfl rfl rfl) $$ HS; iintro HS
  unfold wpc; rw [wp_ret]; imodintro
  iapply (fin_shared m K c 14 15 15 14 15 rfl rfl rfl) $$ HS; iintro HS
  unfold wpc; rw [wp_ret]; imodintro
  iapply Hk
  ihave H := (fin_out m K c) $$ [HS Had Hoc Hpc Hw1']
  · isplitl [HS]; · iexact HS
    isplitl [Had]; · iexact Had
    isplitl [Hoc]; · iexact Hoc
    isplitl [Hpc] <;> iassumption
  icases H with ⟨HO, Hp, Ha, Hr, Hout, Hz0, Hz1, Hz2, Hz3⟩
  unfold exit zeros scratch
  isplitl [HO]; · iexact HO
  isplitl [HzB Hz0 Hz1 Hz2 Hz3]
  · isplitl [HzB]; · iexact HzB
    isplitl [Hz0]; · iexact Hz0
    isplitl [Hz1]; · iexact Hz1
    isplitl [Hz2] <;> iassumption
  isplitl [Hx Hw1 Hw2 Hout]
  · isplitl [Hx]; · iexact Hx
    isplitl [Hw1]; · iexact Hw1
    isplitl [Hw2] <;> iassumption
  isplitl [Hp]; · iexists _; iexact Hp
  isplitl [Ha]; · iexists _; iexact Ha
  iexists _; iexact Hr

end Cert.FfnProof

end
-- ==== Proof.Body.lean ====
/-
The kernel as the launch runs it: what its staging buffers hold before and after its one grid point, what it keeps at
that point besides, and the obligation the launch asks of its body.
-/
module

public import proofs.«01_k».proof.Proof.Chain
public import proofs.«01_k».proof.Proof.Gen.KernelIdeal.Points

@[expose] public section

set_option maxRecDepth 16384

noncomputable section

namespace Cert.FfnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The exchange's ghost state of device `c`: every cell's invariant at some names, the tokens it pays, its positions. -/
def ghost (c : Dev nD) : sProp 𝕄 := iprop(∃ K, records m K ∗ payToks c ∗ poss c)
/-- That, its credits and the levels: what device `c`'s kernel is launched with. -/
def start (c : Dev nD) : sProp 𝕄 := iprop(ghost m c ∗ crs c ∗ levAts L lv)
/-- Before the grid point: that and the other buffers; -/
def Φ₀ (c : Dev nD) : sProp 𝕄 := iprop(start m c ∗ scratch c)
/-- after it: the other buffers and every semaphore of the device at zero. -/
def Φ₁ (c : Dev nD) : sProp 𝕄 := iprop(scratch (F := F) c ∗ zeros c)

/-- The launch's data: the operands' staging buffers keep their blocks, the result's ends at the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xStg m c
    | ⟨1, _⟩ => w1Stg m c
    | ⟨2, _⟩ => w2Stg m c
    | ⟨3, _⟩ => outFull m
  Φ t := match t with
    | ⟨0, _⟩ => Φ₀ m c
    | ⟨_ + 1, _⟩ => Φ₁ c
  q _ := fullShare
  owed t := match t with
    | ⟨0, _⟩ => O₀ c
    | ⟨_ + 1, _⟩ => 0

/-- A buffer of device `c` whole at contents `X`. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = holds c b X := by
  unfold owns; simp only [Memref.view_whole, View.read_whole, View.set_whole]

def pre (c : Dev nD) : sProp 𝕄 :=
  iprop(Φ₀ m c ∗ (dats m ρ 0 c).owesAt () t0_0.castSucc
    ∗ (∃ d, holds c cc0_stg0_0 ((dats m ρ 0 c).before (0 : Fin 4) t0_0 d)) ∗ (∃ d, holds c cc0_stg1_0 ((dats m ρ 0 c).before (1 : Fin 4) t0_0 d))
    ∗ (∃ d, holds c cc0_stg2_0 ((dats m ρ 0 c).before (2 : Fin 4) t0_0 d)) ∗ (∃ d, holds c cc0_stg3_0 ((dats m ρ 0 c).before (3 : Fin 4) t0_0 d)))
def post (c : Dev nD) : sProp 𝕄 :=
  iprop(Φ₁ c ∗ (dats m ρ 0 c).owesAt () t0_0.succ ∗ holds c cc0_stg0_0 (xStg m c) ∗ holds c cc0_stg1_0 (w1Stg m c) ∗ holds c cc0_stg2_0 (w2Stg m c)
    ∗ holds c cc0_stg3_0 (outFull m))

/-- The body from the launch's precondition to its postcondition. -/
theorem body_ok (c : Dev nD) : pre m ρ c
    ⊢ wpc c (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6) (fun _ => post m ρ c) := by
  unfold pre Φ₀ start ghost Dat.owesAt Pipeline.owesWithin
  iintro ⟨⟨⟨⟨%K, HR, Ht, Hp⟩, Hc, Hl⟩, Hs⟩, ⟨%W, %hW, HO⟩, ⟨%d0, %g0, %hg0, Hx⟩, ⟨%d1, %g1, %hg1, Hw1⟩, ⟨%d2, %g2, %hg2, Hw2⟩, ⟨%d3, %g3, %hg3, Hout⟩⟩
  have h0 : g0 = xStg m c := by rw [hg0]; unfold Dat.before; rw [if_pos (fetch0_0 t0_0)]; rfl
  have h1 : g1 = w1Stg m c := by rw [hg1]; unfold Dat.before; rw [if_pos (fetch0_1 t0_0)]; rfl
  have h2 : g2 = w2Stg m c := by rw [hg2]; unfold Dat.before; rw [if_pos (fetch0_2 t0_0)]; rfl
  subst h0 h1 h2
  rw [show (dats m ρ 0 c).owed t0_0.castSucc = O₀ c from rfl]
  iapply (run_body m K c fun _ => post m ρ c)
  isplitr []
  · unfold entry
    isplitl [HR]; · iexact HR
    isplitl [Hl]; · iexact Hl
    isplitl [HO]; · unfold ow; iexists W; iexact HO
    isplitl [Ht]; · iexact Ht
    isplitl [Hp]; · iexact Hp
    isplitl [Hc]; · iexact Hc
    isplitr [Hs]
    · isplitl [Hx]; · iexact Hx
      isplitl [Hw1]; · iexact Hw1
      isplitl [Hw2]; · iexact Hw2
      iexists g3; iexact Hout
    · iexact Hs
  · unfold exit post Φ₁ ow Dat.owesAt Pipeline.owesWithin
    iintro ⟨⟨%W', HO⟩, Hz, ⟨Hx, Hw1, Hw2, Hout⟩, Hs⟩
    rw [show (dats m ρ 0 c).owed t0_0.succ = 0 from rfl]
    isplitl [Hs Hz]
    · isplitl [Hs] <;> iassumption
    isplitl [HO]
    · iexists W'
      isplitr; · ipureintro; exact fun _ _ => Or.inl trivial
      iexact HO
    isplitl [Hx]
    · iexists _; isplitr; · (ipureintro; rfl)
      iexact Hx
    isplitl [Hw1]
    · iexists _; isplitr; · (ipureintro; rfl)
      iexact Hw1
    isplitl [Hw2]
    · iexists _; isplitr; · (ipureintro; rfl)
      iexact Hw2
    · iexists _; isplitr; · (ipureintro; rfl)
      iexact Hout

/-- What the launch asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_ok m ρ c

end Cert.FfnProof

end
-- ==== Proof.Launch.lean ====
/-
The launch: the exchange's cells and tokens dealt out, the tokens handed to the devices that pay the duties, the launch
credit, and the run of the whole program from any memory.
-/
module

public import proofs.«01_k».proof.Proof.Body
public import Idealize.ShloMosaic.Lib.Quiescent
public import Idealize.ShloMosaic.Lib.Pipeline.CollectiveSegs

@[expose] public section

set_option maxRecDepth 16384

noncomputable section

namespace Cert.FfnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The kernel's own semaphores: four arrays of fifteen. -/
abbrev osem : Fin 4 × Fin 15 → SemLoc sig := fun x => .dma (dsem x.1 x.2)

theorem dma_inj {x y : Fin 4 × Fin 15} (h : osem x = osem y) : x = y :=
  Prod.ext (dsem_inj (SemLoc.dma.inj h)).1 (dsem_inj (SemLoc.dma.inj h)).2

theorem ownSemFacts : Pipeline.OwnSemFacts cfg0.spec osem where
  isScoped := by decide
  inj _ _ h := dma_inj h
  disj := by decide

theorem csem_inj {x y : CK} (h : csem x = csem y) : x = y := by
  rcases x with _ | x <;> rcases y with _ | y
  · rfl
  · cases h
  · cases h
  · exact congrArg some (dma_inj h)
theorem kcell_inj : Function.Injective kcell := fun a b h =>
  Prod.ext (Fin.ext (congrArg (fun g : GSem nD τ sig => g.1.1.val) h)) (csem_inj (congrArg Prod.snd h))

/-- Over a device's cells: its barrier, then its four arrays. -/
theorem over_cells (Φ : CK → sProp 𝕄) : bigSep Finset.univ Φ = iprop(Φ none ∗ (bigSep Finset.univ fun e : Fin 15 => Φ (some (0, e)))
    ∗ (bigSep Finset.univ fun e : Fin 15 => Φ (some (1, e))) ∗ (bigSep Finset.univ fun e : Fin 15 => Φ (some (2, e)))
    ∗ bigSep Finset.univ fun e : Fin 15 => Φ (some (3, e))) := by
  have h : (Finset.univ : Finset CK) = insert none (Finset.univ.map Function.Embedding.some) := by
    ext x; cases x <;> simp
  rw [h, bigSep_insert (by simp), bigSep_map, bigSep_univ_prod,
    bigSep_univ_eq_bigSepL [0, 1, 2, 3] (by decide) (by decide) (fun k : Fin 4 => bigSep Finset.univ fun e : Fin 15 => Φ (Function.Embedding.some (k, e)))]
  rfl

/-- All the cells. -/
def allCells : Finset (GSem nD τ sig) := Finset.univ.map ⟨kcell, kcell_inj⟩

theorem over_all (Φ : GSem nD τ sig → sProp 𝕄) : bigSep allCells Φ = bigSep Finset.univ fun c : Dev nD => bigSep Finset.univ fun k : CK => Φ (kcell (c, k)) := by
  unfold allCells; rw [bigSep_map, bigSep_univ_prod]; rfl

/-! ## The tokens -/

/-- A device's own duties: fifteen at its barrier, one at each of its copy semaphores. -/
abbrev tokOf (x : Dev nD × Option (Fin 4) × Fin 15) : GSem nD τ sig × ℕ × Fin 15 := match x.2.1 with
  | none => (barCell x.1, 0, x.2.2)
  | some k => (dCell k x.1 x.2.2, 0, 0)
theorem tokOf_inj : Function.Injective tokOf := by
  rintro ⟨c, k, e⟩ ⟨c', k', e'⟩ h
  have hc : c = c' := by
    have := congrArg (fun x : GSem nD τ sig × ℕ × Fin 15 => x.1.1.1) h
    cases k <;> cases k' <;> exact this
  subst hc
  have hs : (tokOf (c, k, e)).1.2 = (tokOf (c, k', e')).1.2 := congrArg (fun x : GSem nD τ sig × ℕ × Fin 15 => x.1.2) h
  have hd : (tokOf (c, k, e)).2.2 = (tokOf (c, k', e')).2.2 := congrArg (fun x : GSem nD τ sig × ℕ × Fin 15 => x.2.2) h
  rcases k with _ | k <;> rcases k' with _ | k'
  · exact congrArg (fun e => (c, none, e)) hd
  · cases hs
  · cases hs
  · have := dma_inj (x := (k, e)) (y := (k', e')) hs
    cases this; rfl
def allToks : Finset (GSem nD τ sig × ℕ × Fin 15) := Finset.univ.map ⟨tokOf, tokOf_inj⟩

/-- The tokens of device `c`'s own cells. -/
def toks (c : Dev nD) : sProp 𝕄 :=
  iprop((bigSep Finset.univ fun e : Fin 15 => dutyTok ER (barCell c) 0 e)
    ∗ (bigSep Finset.univ fun e : Fin 15 => dutyTok ER (dCell 0 c e) 0 0) ∗ (bigSep Finset.univ fun e : Fin 15 => dutyTok ER (dCell 1 c e) 0 0)
    ∗ (bigSep Finset.univ fun e : Fin 15 => dutyTok ER (dCell 2 c e) 0 0) ∗ (bigSep Finset.univ fun e : Fin 15 => dutyTok ER (dCell 3 c e) 0 0))

theorem over_toks : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks
  rw [bigSep_univ_prod, bigSep_univ_eq_bigSepL [none, some 0, some 1, some 2, some 3] (by decide) (by decide)]
  rfl

/-- Handing each cell's token to the device `e + 1` places before it. -/
theorem around (Φ : Dev nD → Fin 15 → sProp 𝕄) :
    (bigSep Finset.univ fun c : Dev nD => bigSep Finset.univ fun e : Fin 15 => Φ c e)
      = bigSep Finset.univ fun c : Dev nD => bigSep Finset.univ fun e : Fin 15 => Φ (peer c e) e := by
  rw [bigSep_univ_comm, bigSep_univ_comm (fun (c : Dev nD) (e : Fin 15) => Φ (peer c e) e)]
  exact bigSep_congr fun e _ => bigSep_univ_equiv (stepEquiv e) fun c => Φ c e

/-- So every device gets the tokens of the duties it pays. -/
theorem toks_around : (bigSep Finset.univ fun c : Dev nD => (toks c : sProp 𝕄)) ⊢ bigSep Finset.univ fun c : Dev nD => payToks c := by
  unfold toks payToks
  simp only [bigSep_sep']
  rw [around (fun c e => dutyTok ER (barCell c) 0 e), around (fun c e => dutyTok ER (dCell 1 c e) 0 0), around (fun c e => dutyTok ER (dCell 3 c e) 0 0)]

/-! ## What the launch deals -/

def u₀ : UU :=
  (initOf (Pipeline.cells cfgs cellOf_inj) (Pipeline.launchToks cfgs cellOf_inj), initOf allCells allToks)

/-- What device `c` is dealt: its cells' round states, its positions, that round 0 is reached, its cells' tokens. -/
def G (c : Dev nD) : sProp 𝕄 :=
  iprop((bigSep Finset.univ fun k : CK => roundState ER (rd m) (kcell (c, k)) 0)
    ∗ (bigSep Finset.univ fun k : CK => iprop(atPos ER (kcell (c, k)) 0 ∅ 0 ∗ reached ER (kcell (c, k)) 0)) ∗ toks c)

theorem fund_all : BI.own (ER (initOf allCells allToks)) ⊢ (|==> bigSep Finset.univ (G m) : sProp 𝕄) := by
  iintro HX
  imod (Rounds.fund ER (rd m) allCells allToks) $$ HX with ⟨Hst, Hr, Hat, Htok⟩
  imodintro
  ihave Hst' := (Entails.of_eq (over_all fun g => roundState ER (rd m) g 0)) $$ Hst
  ihave Hat' := (Entails.of_eq (over_all (F := F) fun g => atPos ER g 0 ∅ 0)) $$ Hat
  ihave Hr' := (Entails.of_eq (over_all (F := F) fun g => reached ER g 0)) $$ Hr
  ihave Htok' := (Entails.of_eq (over_toks (F := F))) $$ Htok
  unfold G; simp only [bigSep_sep']
  isplitl [Hst']; · iexact Hst'
  isplitl [Hat' Hr']
  · isplitl [Hat'] <;> iassumption
  iexact Htok'

/-- The kernel's own semaphores, array by array; -/
theorem ownSems_eq (c : Dev nD) : (Pipeline.ownSems0 (Ix := Unit) (Name := ℕ) (U := UU) (Lvl := ℕ) (Val := Elt F) (τ := τ) osem c : sProp 𝕄)
    = iprop((bigSep Finset.univ fun e : Fin 15 => semVal (dCell 0 c e) 0) ∗ (bigSep Finset.univ fun e : Fin 15 => semVal (dCell 1 c e) 0)
      ∗ (bigSep Finset.univ fun e : Fin 15 => semVal (dCell 2 c e) 0) ∗ bigSep Finset.univ fun e : Fin 15 => semVal (dCell 3 c e) 0) := by
  unfold Pipeline.ownSems0
  rw [bigSep_univ_prod, bigSep_univ_eq_bigSepL [0, 1, 2, 3] (by decide) (by decide)]
  rfl
/-- the barrier's is the only one besides. -/
theorem barSem_eq (c : Dev nD) : (unscopedSems0 c : sProp 𝕄) = semVal (barCell c) 0 := by
  unfold unscopedSems0; rw [bigSep_eq_bigSepL_of_eq [SemLoc.reg barS] (by decide) (by decide)]; rfl

theorem sems_split (c : Dev nD) : (zeros c : sProp 𝕄)
    ⊣⊢ iprop(Pipeline.ownSems0 (Ix := Unit) (Name := ℕ) (U := UU) (Lvl := ℕ) (Val := Elt F) (τ := τ) osem c ∗ unscopedSems0 c) := by
  rw [ownSems_eq, barSem_eq]; unfold zeros
  exact sep_comm

/-- Every cell's invariant, of one device's cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems_split (F := F) c).2 $$ [Hos Hus]
  · isplitl [Hos] <;> iassumption
  ihave Hv' := (show (zeros c : sProp 𝕄) ⊢ bigSep Finset.univ fun k : CK => semVal (kcell (c, k)) 0 from Entails.of_eq (over_cells (F := F) fun k => semVal (kcell (c, k)) 0).symm) $$ Hv
  imod (show iprop((bigSep Finset.univ fun k : CK => semVal (kcell (c, k)) 0) ∗ bigSep Finset.univ fun k : CK => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv' Hst] with Hinv
  · isplitl [Hv'] <;> iassumption
  imodintro
  isplitl [Hinv]; · iexact Hinv
  isplitl [Hat]; · iexact Hat
  iexact Htok

/-- A fact every device may use, given to each. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records m K ∗ poss c ∗ payToks c) ⊢ ghost m c := by
  unfold ghost
  iintro ⟨HR, Hp, Ht⟩
  iexists K
  isplitl [HR]; · iexact HR
  isplitl [Ht] <;> iassumption

theorem regroup :
    (bigSep Finset.univ fun c : Dev nD => iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (ghost m) := by
  rw [bigSep_sep', bigSep_sep', ← bigSep_univ_prod (fun ck : Dev nD × CK => iprop(∃ κ : ℕ, cellInv ER (rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m) κ (kcell ck) : sProp 𝕄))) $$ HI
  icases HK with ⟨%K, #HI⟩
  ihave Htk := (toks_around (F := F)) $$ Htok
  ihave Hat' := (show (bigSep Finset.univ fun c : Dev nD => bigSep Finset.univ fun k : CK => (atPos ER (kcell (c, k)) 0 ∅ 0 : sProp 𝕄)) ⊢ bigSep Finset.univ fun c : Dev nD => poss c
    from bigSep_mono fun c _ => Entails.of_eq (over_cells (F := F) fun k => atPos ER (kcell (c, k)) 0 ∅ 0)) $$ Hat
  iapply (with_all (R := records m K) fun c _ => ghost_intro m K c)
  isplitr
  · unfold records; isplitl; · iexact HI
    iexact HR
  · iapply (Entails.of_eq (bigSep_sep' Finset.univ (fun c : Dev nD => (poss c : sProp 𝕄)) payToks).symm)
    isplitl [Hat'] <;> iassumption

/-- The launch's one step over every device: the cells' invariants allocated, the tokens handed round. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

/-- What all devices together owe one cell, when each owes `n` at its `e`-th peer's cell for every `e`. -/
theorem owed_sum (cell : Dev nD → Fin 15 → GSem nD τ sig) (n : ℕ) (g : GSem nD τ sig) :
    ∑ d : Dev nD, (∑ e ∈ stepsFrom 0, tallyAt (cell (peer d e) e) () n : CellTallies nD τ sig Unit) g ()
      = ∑ e : Fin 15, ∑ d : Dev nD, if g = cell d e then n else 0 := by
  have h0 : stepsFrom 0 = Finset.univ := by ext x; simp [stepsFrom]
  rw [h0]
  have h (d : Dev nD) : (∑ e : Fin 15, tallyAt (cell (peer d e) e) () n : CellTallies nD τ sig Unit) g () = ∑ e : Fin 15, if g = cell (peer d e) e then n else 0 := by
    rw [Finset.sum_apply, Finsupp.finset_sum_apply]
    refine Finset.sum_congr rfl fun e _ => ?_
    rw [tallyAt_apply]
    by_cases hg : g = cell (peer d e) e
    · rw [if_pos ⟨hg, rfl⟩, if_pos hg]
    · rw [if_neg (fun h => hg h.1), if_neg hg]
  rw [Finset.sum_congr rfl fun d _ => h d, Finset.sum_comm]
  exact Finset.sum_congr rfl fun e _ => (stepEquiv e).sum_comp fun d => if g = cell d e then n else 0

theorem bar_inj {c d : Dev nD} (h : barCell c = barCell d) : c = d := Fin.ext (congrArg (fun g : GSem nD τ sig => g.1.1.val) h)
theorem dCell_inj {j k : Fin 4} {c d : Dev nD} {e e' : Fin 15} (h : dCell j c e = dCell k d e') : j = k ∧ c = d ∧ e = e' := by
  have h2 := dma_inj (x := (j, e)) (y := (k, e')) (congrArg Prod.snd h)
  exact ⟨congrArg Prod.fst h2, Fin.ext (congrArg (fun g : GSem nD τ sig => g.1.1.val) h), congrArg Prod.snd h2⟩

theorem owed_bar (c : Dev nD) : ∑ d : Dev nD, owB d 0 (barCell c) () = 15 := by
  unfold owB
  rw [owed_sum (fun d _ => barCell d) 1 (barCell c)]
  have h (d : Dev nD) : (if barCell c = barCell d then 1 else 0) = if c = d then 1 else 0 := by
    by_cases hd : c = d
    · rw [if_pos hd, if_pos (congrArg barCell hd)]
    · rw [if_neg hd, if_neg fun h => hd (bar_inj h)]
  simp only [h, Finset.sum_ite_eq, Finset.mem_univ, if_true, Finset.sum_const, Finset.card_univ, Fintype.card_fin, smul_eq_mul]
theorem owed_bar_dma (j : Fin 4) (c : Dev nD) (e : Fin 15) : ∑ d : Dev nD, owB d 0 (dCell j c e) () = 0 := by
  unfold owB
  rw [owed_sum (fun d _ => barCell d) 1 (dCell j c e)]
  exact Finset.sum_eq_zero fun _ _ => Finset.sum_eq_zero fun d _ => if_neg fun h => by cases congrArg Prod.snd h
theorem owed_copy_bar (j : Fin 4) (c : Dev nD) : ∑ d : Dev nD, owC j d 0 (barCell c) () = 0 := by
  unfold owC
  rw [owed_sum (fun d e => dCell j d e) N (barCell c)]
  exact Finset.sum_eq_zero fun _ _ => Finset.sum_eq_zero fun d _ => if_neg fun h => by cases congrArg Prod.snd h
theorem owed_copy (j k : Fin 4) (c : Dev nD) (e : Fin 15) : ∑ d : Dev nD, owC j d 0 (dCell k c e) () = if k = j then N else 0 := by
  unfold owC
  rw [owed_sum (fun d e => dCell j d e) N (dCell k c e)]
  by_cases hk : k = j
  · subst hk
    rw [if_pos rfl, Finset.sum_eq_single e, Finset.sum_eq_single c, if_pos rfl]
    · exact fun d _ hd => if_neg fun h => hd (dCell_inj h).2.1.symm
    · exact fun h => absurd (Finset.mem_univ _) h
    · exact fun e' _ he => Finset.sum_eq_zero fun d _ => if_neg fun h => he (dCell_inj h).2.2.symm
    · exact fun h => absurd (Finset.mem_univ _) h
  · rw [if_neg hk]
    exact Finset.sum_eq_zero fun _ _ => Finset.sum_eq_zero fun d _ => if_neg fun h => hk (dCell_inj h).1

theorem owed_split (g : GSem nD τ sig) : ∑ d : Dev nD, O₀ d g () = ∑ d : Dev nD, owC 3 d 0 g () + ∑ d : Dev nD, owC 1 d 0 g () + ∑ d : Dev nD, owB d 0 g () := by
  rw [← Finset.sum_add_distrib, ← Finset.sum_add_distrib]; rfl

/-- What the launch credits a cell with is what all devices owe it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, h, Finsupp.single_eq_same]

theorem launch_bar (c : Dev nD) : tallyOn (barCell c) (launchCredit (Pipeline.owing O₀) 0 (barCell c)) = (tallyAt (barCell c) () 15 : CellTallies nD τ sig Unit) :=
  launch_at _ _ (by rw [owed_split, owed_copy_bar, owed_copy_bar, owed_bar])
theorem launch_rs (c : Dev nD) (e : Fin 15) : tallyOn (dCell 1 c e) (launchCredit (Pipeline.owing O₀) 0 (dCell 1 c e)) = (tallyAt (dCell 1 c e) () N : CellTallies nD τ sig Unit) :=
  launch_at _ _ (by rw [owed_split, owed_copy, owed_copy, owed_bar_dma, if_neg (by decide), if_pos rfl, Nat.zero_add, Nat.add_zero])
theorem launch_ag (c : Dev nD) (e : Fin 15) : tallyOn (dCell 3 c e) (launchCredit (Pipeline.owing O₀) 0 (dCell 3 c e)) = (tallyAt (dCell 3 c e) () N : CellTallies nD τ sig Unit) :=
  launch_at _ _ (by rw [owed_split, owed_copy, owed_copy, owed_bar_dma, if_pos rfl, if_neg (by decide), Nat.add_zero])

theorem creds (c : Dev nD) : (Pipeline.launchCred O₀ c : sProp 𝕄) ⊢ crs c := by
  unfold Pipeline.launchCred
  have hs := bigSep_subset (M := 𝕄) (s := Finset.univ) (t := Finset.univ.map ⟨csem, fun _ _ h => csem_inj h⟩) (Finset.subset_univ _)
    (Φ := fun sm : SemLoc sig => (cred (tallyOn ((c.tc : Thread nD τ), sm) (launchCredit (Pipeline.owing O₀) 0 ((c.tc : Thread nD τ), sm))) : sProp 𝕄))
  refine BIBase.Entails.trans hs ?_
  rw [bigSep_map, over_cells]
  iintro ⟨HB, -, H1, -, H3⟩
  unfold crs credD
  isplitl [HB]
  · iapply (Entails.of_eq (congrArg (fun x => (cred x : sProp 𝕄)) (launch_bar c))); iexact HB
  isplitl [H1]
  · iapply (Entails.of_eq (bigSep_congr (s := Finset.univ) fun (e : Fin 15) _ => congrArg (fun x => (cred x : sProp 𝕄)) (launch_rs c e))); iexact H1
  · iapply (Entails.of_eq (bigSep_congr (s := Finset.univ) fun (e : Fin 15) _ => congrArg (fun x => (cred x : sProp 𝕄)) (launch_ag c e))); iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi_first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨Hr, Hz⟩
  ihave Hz' := (sems_split (F := F) c).1 $$ Hz
  icases Hz' with ⟨Ho, Hu⟩
  isplitl [Hu]; · iexact Hu
  isplitl [Ho]; · iexact Ho
  unfold scratch; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- What device `c`'s array of window `w` holds at the end. -/
def finalA (c : Dev nD) (w : Fin cfg0.W) : Buf (Elt F) ((cfg0.win w).arr.view.loc (c : Thread nD τ)) := (dats m ρ 0 c).arrAt w cfg0.N

/-- From any memory with every counter at zero, every fair execution of the program on the sixteen devices ends, with
    every device's arrays at `finalA` and every counter at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.FfnProof

end
-- ==== Proof.Final.lean ====
/-
What the run leaves in the arrays: the operands as they were, and on every device the same result.
-/
module

public import proofs.«01_k».proof.Proof.Launch

@[expose] public section

set_option maxRecDepth 16384

noncomputable section

namespace Cert.FfnProof

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

theorem final_x (c : Dev nD) : finalA m ρ c (0 : Fin 4) = m ((c : Thread nD τ).loc main_arg0) := (dats (F := F) m ρ 0 c).arrAt_in (0 : Fin 4) rfl _
theorem final_w1 (c : Dev nD) : finalA m ρ c (1 : Fin 4) = m ((c : Thread nD τ).loc main_arg1) := (dats (F := F) m ρ 0 c).arrAt_in (1 : Fin 4) rfl _
theorem final_w2 (c : Dev nD) : finalA m ρ c (2 : Fin 4) = m ((c : Thread nD τ).loc main_arg2) := (dats (F := F) m ρ 0 c).arrAt_in (2 : Fin 4) rfl _

/-- A window that is its whole array reads the array. -/
theorem read_whole_out (X : (main_v1 : Ref sig .tc).ty.Contents (Elt F)) : ((cfg0.win 3).blk t0_0).view.read (Elt F) X = X :=
  Memref.read_access_unit_zero (Elt F) main_v1 (funext fun a => by fin_cases a <;> rfl) _ X
theorem read_whole_x (X : (main_arg0 : Ref sig .tc).ty.Contents (Elt F)) : (win0_0.blk (0 : Fin 1)).view.read (Elt F) X = X :=
  Memref.read_access_unit_zero (Elt F) main_arg0 (funext fun a => by fin_cases a <;> rfl) _ X
theorem read_whole_w1 (X : (main_arg1 : Ref sig .tc).ty.Contents (Elt F)) : (win0_1.blk (0 : Fin 1)).view.read (Elt F) X = X :=
  Memref.read_access_unit_zero (Elt F) main_arg1 (funext fun a => by fin_cases a <;> rfl) _ X
theorem read_whole_w2 (X : (main_arg2 : Ref sig .tc).ty.Contents (Elt F)) : (win0_2.blk (0 : Fin 1)).view.read (Elt F) X = X :=
  Memref.read_access_unit_zero (Elt F) main_arg2 (funext fun a => by fin_cases a <;> rfl) _ X

theorem xStg_eq (c : Dev nD) : xStg m c = m ((c : Thread nD τ).loc main_arg0) := read_whole_x _
theorem w1Stg_eq (c : Dev nD) : w1Stg m c = m ((c : Thread nD τ).loc main_arg1) := read_whole_w1 _
theorem w2Stg_eq (c : Dev nD) : w2Stg m c = m ((c : Thread nD τ).loc main_arg2) := read_whole_w2 _

/-- The result's array ends at `outFull`, the same on every device. -/
theorem final_out (c : Dev nD) : finalA m ρ c (3 : Fin 4) = outFull m := by
  unfold finalA
  have hw : ((cfg0.win 3).blk t0_0).view.read (Elt F) ((dats (F := F) m ρ 0 c).arrAt 3 cfg0.N) = (dats (F := F) m ρ 0 c).flushed 3 t0_0 := by
    rw [show cfg0.N = t0_0.val + 1 from rfl, (dats m ρ 0 c).arrAt_succ (3 : Fin 4) t0_0, flush0_3, if_pos rfl]
    exact View.read_write_univ _ _
  exact (read_whole_out _).symm.trans (hw.trans (show (dats (F := F) m ρ 0 c).flushed 3 t0_0 = outFull m from funext fun _ => rfl))

/-- The run: every device's result at `outFull`, every operand as it was, every counter at zero. -/
theorem run : θ_run defs (onTc (τ := τ) (main (F := F))) ⟨m, fun _ => 0, ρ⟩
    (fun r => (∀ c : Dev nD, r.2.mem ((c : Thread nD τ).loc main_v1) = outFull m
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun _ h => ⟨fun c => ⟨(h.1 c 3).trans (final_out m ρ c), (h.1 c 0).trans (final_x m ρ c), (h.1 c 1).trans (final_w1 m ρ c),
    (h.1 c 2).trans (final_w2 m ρ c)⟩, h.2⟩) (run_main m ρ)

/-- The run without the result: every operand as it was, every counter at zero. -/
theorem frame : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun _ h => ⟨fun c => (h.1 c).2, h.2⟩) (run m ρ)

end Cert.FfnProof

end
-- ==== Proof.Sums.lean ====
/-
The two regroupings of sums the equation needs: the sum over the sixteen devices taken one's own term first and then the
fifteen devices before it, and the sum over the long inner dimension taken one device's block at a time.
-/
module

public import proofs.«01_k».proof.Proof.Geometry

@[expose] public section

noncomputable section

namespace Cert.FfnProof

open Cert.KernelIdeal
open Idealize.ShloMosaic
open scoped BigOperators

variable {M : Type*} [AddCommMonoid M]

/-- The sum over all devices is `c`'s own term and the terms of its fifteen peers; -/
theorem sum_peers (c : Dev nD) (f : Dev nD → M) : ∑ d, f d = f c + ∑ e : Fin 15, f (peer c e) := by
  rw [univ_eq_peers c, Finset.sum_insert (not_mem_peers c), Finset.sum_map]
  rfl
/-- so too with the peers taken backwards from `c`. -/
theorem sum_srcs (c : Dev nD) (f : Dev nD → M) : ∑ d, f d = f c + ∑ e : Fin 15, f (src c e) := by
  rw [sum_peers c f, ← Equiv.sum_comp Fin.revPerm (fun e => f (peer c e))]
  exact congrArg (f c + ·) (Finset.sum_congr rfl fun e _ => congrArg f (peer_rev c e))

/-- Column `k` of device `d`'s block of the inner dimension, in the whole. -/
def inner (d : Dev nD) (k : Fin 1536) : Fin 24576 := ⟨d.val * 1536 + k.val, by have hd : d.val < 16 := d.isLt; omega⟩

/-- The inner dimension is sixteen blocks of 1536. -/
def innerEquiv : Dev nD × Fin 1536 ≃ Fin 24576 where
  toFun p := inner p.1 p.2
  invFun q := (⟨q.val / 1536, by show _ < 16; omega⟩, ⟨q.val % 1536, Nat.mod_lt _ (by decide)⟩)
  left_inv p := Prod.ext (Fin.ext (by show (p.1.val * 1536 + p.2.val) / 1536 = p.1.val; omega))
    (Fin.ext (by show (p.1.val * 1536 + p.2.val) % 1536 = p.2.val; omega))
  right_inv q := Fin.ext (by show q.val / 1536 * 1536 + q.val % 1536 = q.val; omega)

/-- A sum over the inner dimension is the sum over the devices of the sums over their blocks. -/
theorem sum_inner (f : Fin 24576 → M) : ∑ q, f q = ∑ d : Dev nD, ∑ k : Fin 1536, f (inner d k) := by
  rw [← Equiv.sum_comp innerEquiv f, Fintype.sum_prod_type]
  rfl

end Cert.FfnProof

end
-- ==== Proof.Value.lean ====
/-
The kernel's values at the extended reals: what one device's product holds, and what the summed result holds.
-/
module

public import proofs.«01_k».proof.Proof.Final
public import proofs.«01_k».proof.Proof.Sums
public import Idealize.ShloMosaic.Lib.MatmulPlain
public import Idealize.ShloMosaic.Lib.ValueIdx
public import Idealize.ShloMosaic.Lib.ValueLayout

@[expose] public section

set_option maxRecDepth 16384

noncomputable section

namespace Cert.FfnProof

open Cert.KernelIdeal Cert.KernelIdeal.Gen

open Idealize.ShloMosaic
open Idealize.ShloMosaic.TcCoe
open Idealize.ShloMosaic.ValueIdx
open scoped BigOperators

/-- The dense constant zero is zero everywhere. -/
theorem const_zero {s : Shape} (i : s.Idx) : constant (F := Ideal) s .f32 0x00000000#32 i = (0 : Ideal .f32) := Ideal.ofBits_zero_f32

/-- Reshaping an array to its own shape changes nothing. -/
theorem shapeCast_self {α : Type} {s : Shape} (x : s.Idx → α) (h : s.ShapeCasts s) : shapeCast s x h = x := by
  funext i
  exact congrArg x (Shape.reshapeEquiv_self _ i)

/-- What a device computes from its blocks: rectify `x · w1`, multiply by `w2`. -/
theorem pay1_apply (x : Vec Ideal S768x768 .bf16) (w1 : Vec Ideal S768x1536 .bf16) (w2 : Vec Ideal S1536x768 .bf16) (r : Fin 768) (b : Fin 768) :
    (k0_pay1 x w1 w2 (ix2 r b : S768x768.Idx) : EReal)
      = ∑ k : Fin 1536, max (∑ j : Fin 768, (x (ix2 r j) : EReal) * w1 (ix2 j k)) 0 * w2 (ix2 k b) := by
  unfold k0_pay1
  rw [shapeCast_self, shapeCast_self, shapeCast_self, shapeCast_self, truncf_apply]
  refine (Ideal.matmul_plain_apply (M := 768) (K := 1536) (N := 768) none _ _ _ r b).trans ?_
  rw [const_zero, zero_add]
  refine Finset.sum_congr rfl fun k _ => congrArg (· * (w2 (ix2 k b) : EReal)) ?_
  rw [truncf_apply, maximumf_apply, broadcast_apply]
  refine congrArg₂ max ((Ideal.matmul_plain_apply (M := 768) (K := 768) (N := 1536) none _ _ _ r k).trans ?_) Ideal.ofBits_zero_f32
  rw [const_zero, zero_add]

variable (m : (ℓ : Loc nD τ sig) → Buf (Elt Ideal) ℓ)

/-- A device's own rows, as loaded, -/
theorem ownRows_apply (c : Dev nD) (a : Fin 48) (b : Fin 768) : ownRows m c (ix2 a b) = partialOf m c (ix2 (rowOf c a) b) := by
  refine congrArg (partialOf m c) ?_
  funext d
  match d with
  | ⟨0, _⟩ => exact Fin.ext (by show rowOff c 0 + 1 * a.val = 48 * c.val + a.val; show 48 * c.val + 1 * a.val = _; omega)
  | ⟨1, _⟩ => exact Fin.ext (by show 0 + 1 * b.val = b.val; omega)
/-- and a slot of the landing buffer, as loaded, seen without its leading axis of one. -/
theorem slotVal_apply (c : Dev nD) (e : Fin 15) (h : S1x48x768.ShapeCasts S48x768) (a : Fin 48) (b : Fin 768) :
    shapeCast S48x768 (slotVal m c e) h (ix2 a b) = partialOf m (src c e) (ix2 (rowOf c a) b) := by
  rw [shapeCast_1ab_ab_apply]
  show landFull m c _ = landFull m c (ix3 e a b)
  refine congrArg (landFull m c) ?_
  funext d
  match d with
  | ⟨0, _⟩ => exact Fin.ext (by show e.val + 1 * 0 = e.val; omega)
  | ⟨1, _⟩ => exact Fin.ext (by show 0 + 1 * a.val = a.val; omega)
  | ⟨2, _⟩ => exact Fin.ext (by show 0 + 1 * b.val = b.val; omega)

/-- Device `d`'s operands, and the product it computes from them, as arrays of extended reals. -/
def opX (d : Dev nD) : S768x768.Idx → EReal := m ((d : Thread nD τ).loc main_arg0)
def opW1 (d : Dev nD) : S768x1536.Idx → EReal := m ((d : Thread nD τ).loc main_arg1)
def opW2 (d : Dev nD) : S1536x768.Idx → EReal := m ((d : Thread nD τ).loc main_arg2)
def prodOf (d : Dev nD) : S768x768.Idx → EReal := partialOf m d

theorem prodOf_apply (d : Dev nD) (r b : Fin 768) :
    prodOf m d (ix2 r b) = ∑ k : Fin 1536, max (∑ j : Fin 768, opX m d (ix2 r j) * opW1 m d (ix2 j k)) 0 * opW2 m d (ix2 k b) := by
  unfold prodOf partialOf
  refine (pay1_apply _ _ _ r b).trans ?_
  rw [xStg_eq, w1Stg_eq, w2Stg_eq]
  rfl

/-- Each of the kernel's accumulation payloads, read at an index: two or three slots added to what was there. -/
theorem pay2_apply (o : Vec Ideal S48x768 .bf16) (u v : Vec Ideal S1x48x768 .bf16) (i : S48x768.Idx) :
    (k0_pay2 o u v i : EReal) = o i + shapeCast S48x768 u shapeCasts_S1x48x768_S48x768 i + shapeCast S48x768 v shapeCasts_S1x48x768_S48x768 i := rfl
theorem pay3_apply (t : FVec Ideal S48x768 .f32) (u v : Vec Ideal S1x48x768 .bf16) (i : S48x768.Idx) :
    (k0_pay3 t u v i : EReal) = t i + shapeCast S48x768 u shapeCasts_S1x48x768_S48x768 i + shapeCast S48x768 v shapeCasts_S1x48x768_S48x768 i := rfl
theorem pay4_apply (t : FVec Ideal S48x768 .f32) (u v w : Vec Ideal S1x48x768 .bf16) (i : S48x768.Idx) :
    (k0_pay4 t u v w i : EReal) = t i + shapeCast S48x768 u shapeCasts_S1x48x768_S48x768 i + shapeCast S48x768 v shapeCasts_S1x48x768_S48x768 i
      + shapeCast S48x768 w shapeCasts_S1x48x768_S48x768 i := rfl
theorem pay5_apply (t : FVec Ideal S48x768 .f32) (u v : Vec Ideal S1x48x768 .bf16) (i : S48x768.Idx) :
    (k0_pay5 t u v i : EReal) = t i + shapeCast S48x768 u shapeCasts_S1x48x768_S48x768 i + shapeCast S48x768 v shapeCasts_S1x48x768_S48x768 i := rfl
theorem pay6_apply (t : FVec Ideal S48x768 .f32) (u v w : Vec Ideal S1x48x768 .bf16) (i : S48x768.Idx) :
    (k0_pay6 t u v w i : EReal) = t i + shapeCast S48x768 u shapeCasts_S1x48x768_S48x768 i + shapeCast S48x768 v shapeCasts_S1x48x768_S48x768 i
      + shapeCast S48x768 w shapeCasts_S1x48x768_S48x768 i := rfl
theorem pay7_apply (t : FVec Ideal S48x768 .f32) (u v w : Vec Ideal S1x48x768 .bf16) (i : S48x768.Idx) :
    (k0_pay7 t u v w i : EReal) = t i + shapeCast S48x768 u shapeCasts_S1x48x768_S48x768 i + shapeCast S48x768 v shapeCasts_S1x48x768_S48x768 i
      + shapeCast S48x768 w shapeCasts_S1x48x768_S48x768 i := rfl
theorem pay8_eq (t : FVec Ideal S48x768 .bf16) : k0_pay8 t = t := by
  unfold k0_pay8
  exact shapeCast_self _ _

/-- Sixteen terms added one after another are their sum. -/
theorem sum_chain (o : EReal) (f : Fin 15 → EReal) :
    o + f 0 + f 1 + f 2 + f 3 + f 4 + f 5 + f 6 + f 7 + f 8 + f 9 + f 10 + f 11 + f 12 + f 13 + f 14 = o + ∑ e, f e := by
  simp only [Fin.sum_univ_castSucc, Finset.univ_eq_empty, Finset.sum_empty, zero_add, ← add_assoc]
  rfl

/-- The kernel's accumulation, whatever the rows: one's own rows and the fifteen slots' added up. -/
theorem acc_chain (o : Vec Ideal S48x768 .bf16) (u : Fin 15 → Vec Ideal S1x48x768 .bf16) (i : S48x768.Idx) :
    (k0_pay8 (k0_pay7 (k0_pay6 (k0_pay5 (k0_pay4 (k0_pay3 (k0_pay2 o (u 0) (u 1)) (u 2) (u 3)) (u 4) (u 5) (u 6)) (u 7) (u 8)) (u 9) (u 10) (u 11))
      (u 12) (u 13) (u 14)) i : EReal) = o i + ∑ e : Fin 15, (shapeCast S48x768 (u e) shapeCasts_S1x48x768_S48x768 i : EReal) := by
  rw [pay8_eq]
  refine Eq.trans ?_ (sum_chain (o i) fun e => (shapeCast S48x768 (u e) shapeCasts_S1x48x768_S48x768 i : EReal))
  refine (pay7_apply _ _ _ _ _).trans ?_
  rw [pay6_apply, pay5_apply, pay4_apply, pay3_apply, pay2_apply]

/-- The accumulated rows: the sum of the sixteen devices' products there. -/
theorem accOf_apply (c : Dev nD) (a : Fin 48) (b : Fin 768) :
    (accOf m c (ix2 a b : S48x768.Idx) : Ideal .bf16) = (∑ d : Dev nD, prodOf m d (ix2 (rowOf c a) b) : EReal) := by
  rw [sum_srcs c]
  refine (acc_chain (ownRows m c) (slotVal m c) (ix2 a b)).trans ?_
  exact congrArg₂ (fun s t : EReal => s + t) (ownRows_apply m c a b)
    (Finset.sum_congr rfl fun e _ => slotVal_apply m c e shapeCasts_S1x48x768_S48x768 a b)

/-- The result: the sum of the sixteen devices' products, whole. -/
theorem outFull_apply (r b : Fin 768) :
    (outFull m (ix2 r b : S768x768.Idx) : Ideal .bf16) = (∑ d : Dev nD, prodOf m d (ix2 r b) : EReal) := by
  have h := outFull_at m (rowDev r) (rowIn r) b
  rw [rowOf_rowDev] at h
  have h' := accOf_apply m (rowDev r) (rowIn r) b
  rw [rowOf_rowDev] at h'
  exact h.trans h'

/-- The result, from the arrays the devices were given. -/
theorem outFull_eq (r b : Fin 768) :
    (outFull m (ix2 r b : S768x768.Idx) : Ideal .bf16)
      = (∑ d : Dev nD, ∑ k : Fin 1536, max (∑ j : Fin 768, opX m d (ix2 r j) * opW1 m d (ix2 j k)) 0 * opW2 m d (ix2 k b) : EReal) :=
  (outFull_apply m r b).trans (Finset.sum_congr (M := EReal) rfl fun d _ => prodOf_apply m d r b)

end Cert.FfnProof

end
-- ==== Proof.RefValue.lean ====
/-
What the reference computes at the extended reals: at row `r`, column `b`, the rectified product summed over the whole
inner dimension.
-/
module

public import proofs.«01_k».proof.Proof.Gen.ReferenceIdeal.Run
public import Idealize.ShloMosaic.Lib.StackMember
public import Idealize.ShloMosaic.Lib.ValueIdx
public import Idealize.ShloMosaic.Lib.IdealHost

@[expose] public section

set_option maxRecDepth 16384

noncomputable section

namespace Cert.FfnProof

open Idealize.ShloMosaic
open Idealize.ShloMosaic.ValueIdx
open Cert.ReferenceIdeal Cert.ReferenceIdeal.Gen
open scoped BigOperators

/-- The reference's result, a pure function of its three arrays. -/
def refOut (x : FVec Ideal S768x768 .bf16) (w1 : FVec Ideal S768x24576 .bf16) (w2 : FVec Ideal S24576x768 .bf16) : FVec Ideal S768x768 .bf16 :=
  truncf .bf16 (Host.dotGeneral dot_S768x24576_S24576x768_S768x768_1_0_0_1_n_n none
    (maximumf (truncf .bf16 (Host.dotGeneral dot_S768x768_S768x24576_S768x24576_1_0_0_1_n_n none x w1 : FVec Ideal S768x24576 .f32) bitsLt_bf16_f32)
      (broadcastInDim S768x24576 ![] bcast_S_S768x24576 (constant S_ .bf16 0x0000#16))) w2 : FVec Ideal S768x768 .f32) bitsLt_bf16_f32

theorem refOut_apply (x : FVec Ideal S768x768 .bf16) (w1 : FVec Ideal S768x24576 .bf16) (w2 : FVec Ideal S24576x768 .bf16) (r b : Fin 768) :
    (refOut x w1 w2 (ix2 r b : S768x768.Idx) : EReal)
      = ∑ q : Fin 24576, max (∑ j : Fin 768, (x (ix2 r j) : EReal) * w1 (ix2 j q)) 0 * w2 (ix2 q b) := by
  unfold refOut
  rw [truncf_apply]
  refine (StackMember.dotGeneral_plain_apply (m := 768) (k := 24576) (n := 768) none _ _ r b).trans ?_
  refine Finset.sum_congr rfl fun q _ => congrArg (· * (w2 (ix2 q b) : EReal)) ?_
  rw [maximumf_apply, truncf_apply]
  exact congrArg₂ max (StackMember.dotGeneral_plain_apply (m := 768) (k := 768) (n := 24576) none _ _ r q) Ideal.ofBits_zero_bf16

end Cert.FfnProof

end
-- ==== Proof.Equation.lean ====
/-
The equation: with the operands cut along the inner dimension, the kernel's result is the reference's.
-/
module

public import proofs.«01_k».proof.Proof.Value
public import proofs.«01_k».proof.Proof.RefValue
public import Idealize.ShloMosaic.Lib.Layout

@[expose] public section

set_option maxRecDepth 16384

noncomputable section

namespace Cert.FfnProof

open Cert.KernelIdeal
open Idealize.ShloMosaic
open Idealize.ShloMosaic.TcCoe
open Idealize.ShloMosaic.ValueIdx
open scoped BigOperators

variable {α : Type}

/-- Block `d` of the columns, at row `j` and column `k`; -/
theorem block_cols (d : Fin 16) (w : (⟨2, ![768, 24576]⟩ : Shape).Idx → α) (j : Fin 768) (k : Fin 1536) :
    Layout.block ⟨2, ![768, 1536]⟩ ⟨2, ![768, 24576]⟩ 1 16 d w (by decide) (ix2 j k) = w (ix2 j (inner d k)) := by
  rw [Layout.block_apply]
  refine congrArg w ?_
  funext a
  match a with
  | ⟨0, _⟩ => rfl
  | ⟨1, _⟩ => rfl
/-- block `d` of the rows, at row `k` and column `b`. -/
theorem block_rows (d : Fin 16) (w : (⟨2, ![24576, 768]⟩ : Shape).Idx → α) (k : Fin 1536) (b : Fin 768) :
    Layout.block ⟨2, ![1536, 768]⟩ ⟨2, ![24576, 768]⟩ 0 16 d w (by decide) (ix2 k b) = w (ix2 (inner d k) b) := by
  rw [Layout.block_apply]
  refine congrArg w ?_
  funext a
  match a with
  | ⟨0, _⟩ => rfl
  | ⟨1, _⟩ => rfl

/-- When every device holds all of `x`, its block of the columns of `w1` and its block of the rows of `w2`, the kernel
    leaves on every device what the reference computes from the whole arrays. -/
theorem outFull_eq_refOut (m : (ℓ : Loc nD τ sig) → Buf (Elt Ideal) ℓ) (x : FVec Ideal ⟨2, ![768, 768]⟩ .bf16)
    (w1 : FVec Ideal ⟨2, ![768, 24576]⟩ .bf16) (w2 : FVec Ideal ⟨2, ![24576, 768]⟩ .bf16)
    (h : ∀ c : Dev nD, m ((c : Thread nD τ).loc main_arg0) = x
      ∧ m ((c : Thread nD τ).loc main_arg1) = Layout.block ⟨2, ![768, 1536]⟩ ⟨2, ![768, 24576]⟩ 1 16 c w1
      ∧ m ((c : Thread nD τ).loc main_arg2) = Layout.block ⟨2, ![1536, 768]⟩ ⟨2, ![24576, 768]⟩ 0 16 c w2) :
    outFull m = refOut x w1 w2 := by
  refine funext fun (i : S768x768.Idx) => ?_
  rw [eq_ix2 i]
  refine (outFull_eq m (i 0) (i 1)).trans (Eq.trans ?_ (refOut_apply x w1 w2 (i 0) (i 1)).symm)
  rw [sum_inner]
  refine Finset.sum_congr (M := EReal) rfl fun d _ => Finset.sum_congr (M := EReal) rfl fun k _ => ?_
  have hx : opX m d = x := (h d).1
  have h1 : ∀ j : Fin 768, opW1 m d (ix2 j k) = w1 (ix2 j (inner d k)) :=
    fun j => (congrFun (h d).2.1 (ix2 j k : S768x1536.Idx)).trans (block_cols d w1 j k)
  have h2 : opW2 m d (ix2 k (i 1)) = w2 (ix2 (inner d k) (i 1)) :=
    (congrFun (h d).2.2 (ix2 k (i 1) : S1536x768.Idx)).trans (block_rows d w2 k (i 1))
  rw [hx, h2]
  exact congrArg (fun t : EReal => max t 0 * (w2 (ix2 (inner d k) (i 1)) : EReal))
    (Finset.sum_congr rfl fun j _ => congrArg ((x (ix2 (i 0) j) : EReal) * ·) (h1 j))

end Cert.FfnProof

end
-- ==== Proof.lean ====
/-
The certificate's five claims, assembled: the two frames of the kernel from its one run, the reference's frame from its
host run, and the equation of the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

set_option maxRecDepth 65536

noncomputable section

namespace Cert.Proof

open Idealize.ShloMosaic Idealize.SL.Sem Idealize.ShloMosaic.TcCoe

/-- The kernel's bodies are the same text in both programs: here read at the float words. -/
theorem defs₀_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
/-- and so are the two programs' tables of calls. -/
theorem defs_same : Cert.Kernel.defs (F := Bits) = Cert.KernelIdeal.defs (F := Bits) := by
  unfold Cert.Kernel.defs Cert.KernelIdeal.defs
  exact congrArg (Pipeline.defs (Cert.KernelIdeal.pcfgs (F := Bits))) defs₀_same

/-- The kernel ends without fault, its operands as they were, its counters at zero: its run at the float words. -/
theorem frame_kernel : Cert.quiescent_Kernel := by
  intro m ρ _
  rw [defs_same]
  exact Cert.FfnProof.frame (F := Bits) m ρ

/-- The same at the extended reals. -/
theorem frame_ideal : Cert.quiescent_KernelIdeal := fun m ρ _ =>
  Cert.FfnProof.frame (F := Ideal) m ρ

/-- The reference's run; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the kernel leaves what the reference computes from the whole arrays. -/
theorem equation : Cert.algebraic_KernelIdeal_ReferenceIdeal := by
  intro m g m' g' _ h
  refine ⟨Cert.FfnProof.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r hr c => ⟨?_, (hr.1 c).2⟩) (Cert.FfnProof.run (F := Ideal) m g)
    exact (hr.1 c).1.trans (Cert.FfnProof.outFull_eq_refOut m _ _ _ h)
  · exact (θ_run Cert.ReferenceIdeal.defs _ _).mono (fun r hr => hr 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, equation⟩

end Cert.Proof

end
